-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_v16) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S8192x4608 : Shape := ⟨2, ![8192, 4608]⟩
abbrev S4x1x8192 : Shape := ⟨3, ![4, 1, 8192]⟩
abbrev S8192x1024 : Shape := ⟨2, ![8192, 1024]⟩
abbrev S_ : Shape := ⟨0, ![]⟩

class Facts : Prop where
  slices_S8192x4608_S8192x1024_0_3072 : S8192x4608.Slices ![0, 3072] S8192x1024
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x1x8192 : S_.BroadcastsInDim S4x1x8192 (![] : Fin 0 → Fin S4x1x8192.rank)
  reducesTo_S4x1x8192_S_d0_1_2 : S4x1x8192.ReducesTo [0, 1, 2] S_

variable [Facts]

def fn {F : FTy → Type} [FloatOps F] (main_arg0 : FVec F S8192x4608 .f32) (main_arg1 : FVec F S4x1x8192 .f32) : IVec S_ 1 :=
  let main_v0 : FVec F S8192x1024 .f32 := (extractStridedSlice S8192x1024 ![0, 3072] · slices_S8192x4608_S8192x1024_0_3072) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S4x1x8192 .f32 := Host.absf main_arg1
  let main_cst_0 : FVec F S_ .f32 := constant S_ .f32 0x7F800000#32
  let main_v6 : FVec F S4x1x8192 .f32 := broadcastInDim S4x1x8192 ![] bcast_S_S4x1x8192 main_cst_0
  let main_v7 : IVec S4x1x8192 1 := cmpf .olt main_v5 main_v6
  let main_c_1 : IVec S_ 1 := constantI S_ 1 1#1
  let main_v8 : IVec S_ 1 := (fun x v => Host.reduce IntOp.andi x v reducesTo_S4x1x8192_S_d0_1_2 h_S_) main_v7 main_c_1
  let main_v9 : IVec S_ 1 := andi main_v4 main_v8
  main_v9
-- ==== Kernel.lean ====
abbrev S8192x4608 : Shape := ⟨2, ![8192, 4608]⟩
abbrev S4x1x8192 : Shape := ⟨3, ![4, 1, 8192]⟩
abbrev S136 : Shape := ⟨1, ![136]⟩
abbrev S8192x512 : Shape := ⟨2, ![8192, 512]⟩
abbrev S512x128 : Shape := ⟨2, ![512, 128]⟩
abbrev S1 : Shape := ⟨1, ![1]⟩
abbrev S1x1x512 : Shape := ⟨3, ![1, 1, 512]⟩
abbrev S512x1 : Shape := ⟨2, ![512, 1]⟩
abbrev S512x512 : Shape := ⟨2, ![512, 512]⟩
abbrev S1x512 : Shape := ⟨2, ![1, 512]⟩
abbrev S1x1 : Shape := ⟨2, ![1, 1]⟩
abbrev S512 : Shape := ⟨1, ![512]⟩

abbrev nBuf : Space → Nat
  | .hbm => 3
  | .vmem => 15
  | .smem => 2
  | _ => 0

abbrev bufTy : (tb : Table) → Fin (tcTables nBuf tb) → BufTy
  | .hbm, ⟨0, _⟩ => ⟨S8192x4608, .f32⟩
  | .hbm, ⟨1, _⟩ => ⟨S4x1x8192, .f32⟩
  | .hbm, ⟨2, _⟩ => ⟨S8192x512, .bf16⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S512x128, .bf16⟩
  | .local _ .vmem, ⟨11, _⟩ => ⟨S512x128, .bf16⟩
  | .local _ .vmem, ⟨12, _⟩ => ⟨S512x1, .f32⟩
  | .local _ .vmem, ⟨13, _⟩ => ⟨S512x1, .f32⟩
  | .local _ .vmem, ⟨14, _⟩ => ⟨S512x128, .f32⟩
  | .local _ .smem, ⟨0, _⟩ => ⟨S136, .i32⟩
  | .local _ .smem, ⟨1, _⟩ => ⟨S136, .i32⟩
  | _, _ => ⟨S8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 136], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (v1 : BitVec 32) (v3 : BitVec 32) : BitVec 1 :=
  let c512_i32 : BitVec 32 := 512#32
  let v7 : BitVec 32 := Scalar.muli v1 c512_i32
  let c512_i32_1 : BitVec 32 := 512#32
  let v8 : BitVec 32 := Scalar.addi v7 c512_i32_1
  let c1_i32 : BitVec 32 := 1#32
  let v9 : BitVec 32 := Scalar.subi v8 c1_i32
  let c0_i32_3 : BitVec 32 := 0#32
  let v11 : BitVec 1 := Scalar.cmpi .sgt v9 c0_i32_3
  let v12 : BitVec 32 := Scalar.extui v11
  let c0_i32_4 : BitVec 32 := 0#32
  let v13 : BitVec 1 := Scalar.cmpi .slt v9 c0_i32_4
  let v14 : BitVec 32 := Scalar.extui v13
  let v15 : BitVec 32 := Scalar.subi v12 v14
  let c512_i32_2 : BitVec 32 := 512#32
  let c0_i32_5 : BitVec 32 := 0#32
  let v16 : BitVec 1 := Scalar.cmpi .sgt c512_i32_2 c0_i32_5
  let v17 : BitVec 32 := Scalar.extui v16
  let c0_i32_6 : BitVec 32 := 0#32
  let v18 : BitVec 1 := Scalar.cmpi .slt c512_i32_2 c0_i32_6
  let v19 : BitVec 32 := Scalar.extui v18
  let v20 : BitVec 32 := Scalar.subi v17 v19
  let v21 : BitVec 1 := Scalar.cmpi .ne v15 v20
  let v22 : BitVec 32 := Scalar.remsi v9 c512_i32_2
  let c0_i32_7 : BitVec 32 := 0#32
  let v23 : BitVec 1 := Scalar.cmpi .ne v22 c0_i32_7
  let v24 : BitVec 1 := Scalar.andi v21 v23
  let v10 : BitVec 32 := Scalar.divsi v9 c512_i32_2
  let c1_i32_8 : BitVec 32 := 1#32
  let v25 : BitVec 32 := Scalar.subi v10 c1_i32_8
  let v26 : BitVec 32 := Scalar.select v24 v25 v10
  let v51 : BitVec 1 := Scalar.cmpi .eq v3 v26
  let v52 : BitVec 32 := Scalar.extui v51
  let c0_i32_19 : BitVec 32 := 0#32
  let v53 : BitVec 1 := Scalar.cmpi .ne v52 c0_i32_19
  v53

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c24_i32 : BitVec 32 := 24#32
  let v2 : BitVec 32 := Scalar.addi c24_i32 arg0
  let c0_i32 : BitVec 32 := 0#32
  ![v1.toNat, v2.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c28_i32 : BitVec 32 := 28#32
  let v2 : BitVec 32 := Scalar.addi c28_i32 arg0
  let c0_i32 : BitVec 32 := 0#32
  ![v1.toNat, v2.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c32_i32 : BitVec 32 := 32#32
  let v2 : BitVec 32 := Scalar.addi c32_i32 arg0
  let c0_i32 : BitVec 32 := 0#32
  ![v1.toNat, v2.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_5 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x4608 : Shape := ⟨2, ![8192, 4608]⟩
abbrev S4x1x8192 : Shape := ⟨3, ![4, 1, 8192]⟩
abbrev S8192x1536 : Shape := ⟨2, ![8192, 1536]⟩
abbrev S8192x512 : Shape := ⟨2, ![8192, 512]⟩
abbrev S8192x4x128 : Shape := ⟨3, ![8192, 4, 128]⟩
abbrev S4x8192 : Shape := ⟨2, ![4, 8192]⟩
abbrev S8192 : Shape := ⟨1, ![8192]⟩
abbrev S4x8192x8192 : Shape := ⟨3, ![4, 8192, 8192]⟩
abbrev S_ : Shape := ⟨0, ![]⟩
abbrev S4x8192x1 : Shape := ⟨3, ![4, 8192, 1]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S4x128x8192 : Shape := ⟨3, ![4, 128, 8192]⟩

abbrev nBuf : Space → Nat
  | .hbm => 50
  | .vmem => 0
  | .smem => 0
  | _ => 0

abbrev bufTy : (tb : Table) → Fin (tcTables nBuf tb) → BufTy
  | .hbm, ⟨0, _⟩ => ⟨S8192x4608, .f32⟩
  | .hbm, ⟨1, _⟩ => ⟨S4x1x8192, .f32⟩
  | .hbm, ⟨2, _⟩ => ⟨S8192x1536, .f32⟩
  | .hbm, ⟨3, _⟩ => ⟨S8192x512, .f32⟩
  | .hbm, ⟨4, _⟩ => ⟨S8192x4x128, .f32⟩
  | .hbm, ⟨5, _⟩ => ⟨S8192x512, .f32⟩
  | .hbm, ⟨6, _⟩ => ⟨S8192x4x128, .f32⟩
  | .hbm, ⟨7, _⟩ => ⟨S8192x512, .f32⟩
  | .hbm, ⟨8, _⟩ => ⟨S8192x4x128, .f32⟩
  | .hbm, ⟨9, _⟩ => ⟨S4x8192, .f32⟩
  | .hbm, ⟨10, _⟩ => ⟨S8192, .i32⟩
  | .hbm, ⟨11, _⟩ => ⟨S4x8192x8192, .f32⟩
  | .hbm, ⟨12, _⟩ => ⟨S_, .f32⟩
  | .hbm, ⟨13, _⟩ => ⟨S4x8192x8192, .f32⟩
  | .hbm, ⟨14, _⟩ => ⟨S4x8192x8192, .f32⟩
  | .hbm, ⟨15, _⟩ => ⟨S4x8192x1, .f32⟩
  | .hbm, ⟨16, _⟩ => ⟨S4x8192x8192, .f32⟩
  | .hbm, ⟨17, _⟩ => ⟨S4x8192x8192, .f32⟩
  | .hbm, ⟨18, _⟩ => ⟨S4x1x8192, .f32⟩
  | .hbm, ⟨19, _⟩ => ⟨S4x8192x8192, .f32⟩
  | .hbm, ⟨20, _⟩ => ⟨S4x8192x8192, .f32⟩
  | .hbm, ⟨21, _⟩ => ⟨S8192x1, .i32⟩
  | .hbm, ⟨22, _⟩ => ⟨S1x8192, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S1x8192x8192, .i1⟩
  | .hbm, ⟨27, _⟩ => ⟨S_, .f32⟩
  | .hbm, ⟨28, _⟩ => ⟨S_, .f32⟩
  | .hbm, ⟨29, _⟩ => ⟨S4x8192x8192, .i1⟩
  | .hbm, ⟨30, _⟩ => ⟨S4x8192x8192, .f32⟩
  | .hbm, ⟨31, _⟩ => ⟨S4x8192x8192, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192x1, .f32⟩
  | .hbm, ⟨38, _⟩ => ⟨S4x8192x8192, .f32⟩
  | .hbm, ⟨39, _⟩ => ⟨S4x8192x8192, .f32⟩
  | .hbm, ⟨40, _⟩ => ⟨S4x8192x8192, .f32⟩
  | .hbm, ⟨41, _⟩ => ⟨S_, .f32⟩
  | .hbm, ⟨42, _⟩ => ⟨S4x8192, .f32⟩
  | .hbm, ⟨43, _⟩ => ⟨S4x8192x1, .f32⟩
  | .hbm, ⟨44, _⟩ => ⟨S4x8192x8192, .f32⟩
  | .hbm, ⟨45, _⟩ => ⟨S4x8192x8192, .f32⟩
  | .hbm, ⟨46, _⟩ => ⟨S4x128x8192, .f32⟩
  | .hbm, ⟨47, _⟩ => ⟨S8192x4x128, .f32⟩
  | .hbm, ⟨48, _⟩ => ⟨S8192x512, .f32⟩
  | .hbm, ⟨49, _⟩ => ⟨S8192x512, .bf16⟩
  | _, _ => ⟨S8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Kernel2.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .f32⟩
  | .hbm, ⟨3, _⟩ => ⟨S2048x8192, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel3.lean ====
abbrev S8192x1536 : Shape := ⟨2, ![8192, 1536]⟩
abbrev S8192x512 : Shape := ⟨2, ![8192, 512]⟩
abbrev S8192x8192 : Shape := ⟨2, ![8192, 8192]⟩
abbrev S4x512x2048 : Shape := ⟨3, ![4, 512, 2048]⟩
abbrev S8192x2048 : Shape := ⟨2, ![8192, 2048]⟩
abbrev S512x1536 : Shape := ⟨2, ![512, 1536]⟩
abbrev S512x512 : Shape := ⟨2, ![512, 512]⟩
abbrev S512x8192 : Shape := ⟨2, ![512, 8192]⟩
abbrev S512x2048 : Shape := ⟨2, ![512, 2048]⟩
abbrev S1x512x2048 : Shape := ⟨3, ![1, 512, 2048]⟩

abbrev nBuf : Space → Nat
  | .hbm => 5
  | .vmem => 9
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S8192x8192, .bf16⟩
  | .hbm, ⟨3, _⟩ => ⟨S4x512x2048, .bf16⟩
  | .hbm, ⟨4, _⟩ => ⟨S8192x2048, .bf16⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S512x8192, .bf16⟩
  | .local _ .vmem, ⟨5, _⟩ => ⟨S512x8192, .bf16⟩
  | .local _ .vmem, ⟨6, _⟩ => ⟨S4x512x2048, .bf16⟩
  | .local _ .vmem, ⟨7, _⟩ => ⟨S512x2048, .bf16⟩
  | .local _ .vmem, ⟨8, _⟩ => ⟨S512x2048, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8192x1536 : Shape := ⟨2, ![8192, 1536]⟩
abbrev S8192x512 : Shape := ⟨2, ![8192, 512]⟩
abbrev S8192x8192 : Shape := ⟨2, ![8192, 8192]⟩
abbrev S4x512x2048 : Shape := ⟨3, ![4, 512, 2048]⟩
abbrev S8192x1x512 : Shape := ⟨3, ![8192, 1, 512]⟩
abbrev S8192x4x512 : Shape := ⟨3, ![8192, 4, 512]⟩
abbrev S8192x4x2048 : Shape := ⟨3, ![8192, 4, 2048]⟩
abbrev S4x2048x8192 : Shape := ⟨3, ![4, 2048, 8192]⟩
abbrev S8192x2048 : Shape := ⟨2, ![8192, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S8192x8192, .bf16⟩
  | .hbm, ⟨3, _⟩ => ⟨S4x512x2048, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x1x512, .bf16⟩
  | .hbm, ⟨8, _⟩ => ⟨S8192x1x512, .bf16⟩
  | .hbm, ⟨9, _⟩ => ⟨S8192x1x512, .bf16⟩
  | .hbm, ⟨10, _⟩ => ⟨S8192x1x512, .bf16⟩
  | .hbm, ⟨11, _⟩ => ⟨S8192x4x512, .bf16⟩
  | .hbm, ⟨12, _⟩ => ⟨S8192x4x512, .f32⟩
  | .hbm, ⟨13, _⟩ => ⟨S8192x8192, .f32⟩
  | .hbm, ⟨14, _⟩ => ⟨S8192x4x2048, .f32⟩
  | .hbm, ⟨15, _⟩ => ⟨S4x512x2048, .f32⟩
  | .hbm, ⟨16, _⟩ => ⟨S4x2048x8192, .f32⟩
  | .hbm, ⟨17, _⟩ => ⟨S8192x4x2048, .f32⟩
  | .hbm, ⟨18, _⟩ => ⟨S8192x2048, .f32⟩
  | .hbm, ⟨19, _⟩ => ⟨S8192x2048, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel4.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel5.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel6.lean ====
abbrev S8192x2048 : Shape := ⟨2, ![8192, 2048]⟩
abbrev S1x2048 : Shape := ⟨2, ![1, 2048]⟩
abbrev S2048x4608 : Shape := ⟨2, ![2048, 4608]⟩
abbrev S2048x128 : Shape := ⟨2, ![2048, 128]⟩
abbrev S8192x4608 : Shape := ⟨2, ![8192, 4608]⟩
abbrev S8192x128 : Shape := ⟨2, ![8192, 128]⟩
abbrev S1024x2048 : Shape := ⟨2, ![1024, 2048]⟩
abbrev S2048x512 : Shape := ⟨2, ![2048, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x4608, .bf16⟩
  | .hbm, ⟨3, _⟩ => ⟨S2048x128, .bf16⟩
  | .hbm, ⟨4, _⟩ => ⟨S8192x4608, .f32⟩
  | .hbm, ⟨5, _⟩ => ⟨S8192x128, .f32⟩
  | .hbm, ⟨6, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x128, .bf16⟩
  | .local _ .vmem, ⟨6, _⟩ => ⟨S1024x512, .f32⟩
  | .local _ .vmem, ⟨7, _⟩ => ⟨S1024x512, .f32⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | .local _ .vmem, ⟨11, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference6Ideal.lean ====
abbrev S8192x2048 : Shape := ⟨2, ![8192, 2048]⟩
abbrev S1x2048 : Shape := ⟨2, ![1, 2048]⟩
abbrev S2048x4608 : Shape := ⟨2, ![2048, 4608]⟩
abbrev S2048x128 : Shape := ⟨2, ![2048, 128]⟩
abbrev S_ : Shape := ⟨0, ![]⟩
abbrev S8192 : Shape := ⟨1, ![8192]⟩
abbrev S8192x1 : Shape := ⟨2, ![8192, 1]⟩
abbrev S8192x4608 : Shape := ⟨2, ![8192, 4608]⟩
abbrev S8192x128 : Shape := ⟨2, ![8192, 128]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x4608, .bf16⟩
  | .hbm, ⟨3, _⟩ => ⟨S2048x128, .bf16⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S2048x4608, .f32⟩
  | .hbm, ⟨20, _⟩ => ⟨S8192x4608, .f32⟩
  | .hbm, ⟨21, _⟩ => ⟨S2048x128, .f32⟩
  | .hbm, ⟨22, _⟩ => ⟨S8192x128, .f32⟩
  | .hbm, ⟨23, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel7.lean ====
abbrev S8x8192 : Shape := ⟨2, ![8, 8192]⟩
abbrev S8x1 : Shape := ⟨2, ![8, 1]⟩
abbrev S256x256 : Shape := ⟨2, ![256, 256]⟩
abbrev S8x256 : Shape := ⟨2, ![8, 256]⟩

abbrev nBuf : Space → Nat
  | .hbm => 4
  | .vmem => 4
  | .smem => 0
  | _ => 0

abbrev bufTy : (tb : Table) → Fin (tcTables nBuf tb) → BufTy
  | .hbm, ⟨0, _⟩ => ⟨S8x8192, .f32⟩
  | .hbm, ⟨1, _⟩ => ⟨S8x1, .f32⟩
  | .hbm, ⟨2, _⟩ => ⟨S256x256, .f32⟩
  | .hbm, ⟨3, _⟩ => ⟨S8x8192, .f32⟩
  | .local _ .vmem, ⟨0, _⟩ => ⟨S8x8192, .f32⟩
  | .local _ .vmem, ⟨1, _⟩ => ⟨S8x1, .f32⟩
  | .local _ .vmem, ⟨2, _⟩ => ⟨S256x256, .f32⟩
  | .local _ .vmem, ⟨3, _⟩ => ⟨S8x8192, .f32⟩
  | _, _ => ⟨S8x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference7Ideal.lean ====
abbrev S8x8192 : Shape := ⟨2, ![8, 8192]⟩
abbrev S8x1 : Shape := ⟨2, ![8, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8x8192, .f32⟩
  | .hbm, ⟨1, _⟩ => ⟨S8x1, .f32⟩
  | .hbm, ⟨2, _⟩ => ⟨S8x8192, .f32⟩
  | .hbm, ⟨3, _⟩ => ⟨S8x8192, .f32⟩
  | .hbm, ⟨4, _⟩ => ⟨S8x8192, .f32⟩
  | .hbm, ⟨5, _⟩ => ⟨S_, .f32⟩
  | .hbm, ⟨6, _⟩ => ⟨S8x8192, .f32⟩
  | .hbm, ⟨7, _⟩ => ⟨S8x8192, .f32⟩
  | .hbm, ⟨8, _⟩ => ⟨S8x8192, .f32⟩
  | .hbm, ⟨9, _⟩ => ⟨S8x8192, .f32⟩
  | .hbm, ⟨10, _⟩ => ⟨S8x8192, .i1⟩
  | .hbm, ⟨11, _⟩ => ⟨S8x8192, .f32⟩
  | .hbm, ⟨12, _⟩ => ⟨S8x8192, .f32⟩
  | .hbm, ⟨13, _⟩ => ⟨S8x8192, .f32⟩
  | .hbm, ⟨14, _⟩ => ⟨S8x8192, .f32⟩
  | .hbm, ⟨15, _⟩ => ⟨S8x8192, .f32⟩
  | .hbm, ⟨16, _⟩ => ⟨S8x8192, .f32⟩
  | .hbm, ⟨17, _⟩ => ⟨S8x8192, .f32⟩
  | .hbm, ⟨18, _⟩ => ⟨S8x8192, .f32⟩
  | .hbm, ⟨19, _⟩ => ⟨S8x8192, .f32⟩
  | .hbm, ⟨20, _⟩ => ⟨S_, .f32⟩
  | .hbm, ⟨21, _⟩ => ⟨S_, .f32⟩
  | .hbm, ⟨22, _⟩ => ⟨S8x8192, .f32⟩
  | _, _ => ⟨S8x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v2 : Ref sig .tc := ⟨.hbm, 19, rfl⟩
abbrev main_call1_call0_cst : Ref sig .tc := ⟨.hbm, 20, rfl⟩
abbrev main_call1_call0_v0 : Ref sig .tc := ⟨.hbm, 21, rfl⟩
abbrev main_v3 : Ref sig .tc := ⟨.hbm, 22, rfl⟩

abbrev nD : Nat := 1
abbrev τ : Topo := Topo.v7x

variable {F : FTy → Type} [FloatOps F]
-- ==== Proof.BodyKernel.lean ====
/- The body of the kernel at a grid point, run from its windows' blocks and its three scratch buffers, on each of the
   four ways the table's words may steer it. -/
module

public import proofs.«01_k».proof.Proof.TablesKernel
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The tables and the scratch buffers as the body is handed them. -/
abbrev tQ : Memref sig .tc .smem S136 .i32 := Memref.whole main_c
abbrev tK : Memref sig .tc .smem S136 .i32 := Memref.whole main_c_0
abbrev sM : Memref sig .tc .vmem S512x1 .f32 := Memref.whole cc0_scratch0
abbrev sL : Memref sig .tc .vmem S512x1 .f32 := Memref.whole cc0_scratch1
abbrev sA : Memref sig .tc .vmem S512x128 .f32 := Memref.whole cc0_scratch2

/-- The quotient of the first row of a block of query rows by the width of a block of keys, as the body divides. -/
abbrev quot (q : BitVec 32) : BitVec 32 :=
  Scalar.select (Scalar.andi (Scalar.cmpi .ne (Scalar.subi (Scalar.extui (Scalar.cmpi .sgt (Scalar.muli q 512#32) 0#32)) (Scalar.extui (Scalar.cmpi .slt (Scalar.muli q 512#32) 0#32))) (Scalar.subi (Scalar.extui (Scalar.cmpi .sgt 512#32 0#32)) (Scalar.extui (Scalar.cmpi .slt 512#32 0#32)))) (Scalar.cmpi .ne (Scalar.remsi (Scalar.muli q 512#32) 512#32) 0#32)) (Scalar.subi (Scalar.divsi (Scalar.muli q 512#32) 512#32) 1#32) (Scalar.divsi (Scalar.muli q 512#32) 512#32)
/-- The body's decisions: the first block of keys, a block wholly below the diagonal, a block that meets it. -/
abbrev isFirst (k : BitVec 32) : BitVec 1 := Scalar.cmpi .ne (Scalar.extui (Scalar.cmpi .eq k 0#32)) 0#32
abbrev isBelow (q k : BitVec 32) : BitVec 1 := Scalar.cmpi .ne (Scalar.extui (Scalar.cmpi .slt k (quot q))) 0#32
abbrev isDiag (q k : BitVec 32) : BitVec 1 := Scalar.cmpi .ne (Scalar.extui (Scalar.cmpi .sge k (quot q))) 0#32

/-- The decisions at two block numbers. -/
theorem isFirst_iff : ∀ k : Fin 16, isFirst (BitVec.ofNat 32 k.val) = 1#1 ↔ k.val = 0 := by decide +kernel
theorem isBelow_iff : ∀ q k : Fin 16, isBelow (BitVec.ofNat 32 q.val) (BitVec.ofNat 32 k.val) = 1#1 ↔ k.val < q.val := by decide +kernel
theorem isDiag_iff : ∀ q k : Fin 16, isDiag (BitVec.ofNat 32 q.val) (BitVec.ofNat 32 k.val) = 1#1 ↔ q.val ≤ k.val := by decide +kernel
theorem isLast_iff : ∀ q k : Fin 16, k.val ≤ q.val → (k0_cond4 (BitVec.ofNat 32 q.val) (BitVec.ofNat 32 k.val) = 1#1 ↔ k.val = q.val) := by decide +kernel

/-- The decisions at a grid point. -/
theorem first_iff (t : Fin cfgA.N) : isFirst (wordK (crd t) tabK) = 1#1 ↔ colOf (t.val % 136) = 0 := by
  rw [wordK_eq, crd_step]; exact isFirst_iff ⟨_, col_lt _⟩
theorem below_iff (t : Fin cfgA.N) : isBelow (wordQ (crd t) tabQ) (wordK (crd t) tabK) = 1#1 ↔ colOf (t.val % 136) < rowOf (t.val % 136) := by
  rw [wordK_eq, wordQ_eq, crd_step]; exact isBelow_iff ⟨_, row_lt _⟩ ⟨_, col_lt _⟩
theorem diag_iff (t : Fin cfgA.N) : isDiag (wordQ (crd t) tabQ) (wordK (crd t) tabK) = 1#1 ↔ rowOf (t.val % 136) ≤ colOf (t.val % 136) := by
  rw [wordK_eq, wordQ_eq, crd_step]; exact isDiag_iff ⟨_, row_lt _⟩ ⟨_, col_lt _⟩
theorem last_iff (t : Fin cfgA.N) : k0_cond4 (wordQ (crd t) tabQ) (wordK (crd t) tabK) = 1#1 ↔ colOf (t.val % 136) = rowOf (t.val % 136) := by
  rw [wordK_eq, wordQ_eq, crd_step]
  exact isLast_iff ⟨_, row_lt _⟩ ⟨_, col_lt _⟩ (col_le_row ⟨t.val % 136, Nat.mod_lt _ (by decide)⟩)

set_option backward.proofsInPublic true in
set_option maxHeartbeats 8000000 in
/-- The body at the first block of keys, which meets the diagonal: the scratch buffers are set, one masked step is taken and the result is stored; what it leaves, with the run that leaves it. -/
noncomputable def runFirstDiag (c : Dev nD) (i : grid0.Coords) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S512x128 .bf16) (harg9 : arg9.IsWhole) (T0 T1 : S136.Idx → Elt Bits .i32)
    (x0 x1 x2 : S512x128.Idx → Elt Bits .f32) (x3 x4 : S1x1x512.Idx → Elt Bits .f32) (xa0 : Buf (Elt Bits) ((c : Thread nD τ).loc cc0_scratch0)) (xa1 : Buf (Elt Bits) ((c : Thread nD τ).loc cc0_scratch1)) (xa2 : Buf (Elt Bits) ((c : Thread nD τ).loc cc0_scratch2))
    (hc0 : isFirst (wordK i T1) = 1#1) (hc1 : ¬(isBelow (wordQ i T0) (wordK i T1) = 1#1)) (hc2 : isDiag (wordQ i T0) (wordK i T1) = 1#1) (hc4 : k0_cond4 (wordQ i T0) (wordK i T1) = 1#1) :
    Σ' (out0 : List (View.Piece (Elt Bits) S512x128 .bf16)) (m1 : Buf (Elt Bits) ((c : Thread nD τ).loc cc0_scratch0)) (l1 : Buf (Elt Bits) ((c : Thread nD τ).loc cc0_scratch1)), { a1 : Buf (Elt Bits) ((c : Thread nD τ).loc cc0_scratch2) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tQ.view.loc (c : Thread nD τ) ↦{fullShare.right} T0)
          ∗ (tK.view.loc (c : Thread nD τ) ↦{fullShare.right} T1)
          ∗ (∃ d, owns (c : Thread nD τ) arg9 fullShare d)
          ∗ (sM.view.loc (c : Thread nD τ) ↦{fullShare} xa0)
          ∗ (sL.view.loc (c : Thread nD τ) ↦{fullShare} xa1)
          ∗ (sA.view.loc (c : Thread nD τ) ↦{fullShare} xa2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tQ.view.loc (c : Thread nD τ) ↦{fullShare.right} T0)
          ∗ (tK.view.loc (c : Thread nD τ) ↦{fullShare.right} T1)
          ∗ (∃ f, arg9.view.loc (c : Thread nD τ) ↦[arg9.view.set]{fullShare} arg9.view.writes (Elt Bits) f out0)
              ∗ (sM.view.loc (c : Thread nD τ) ↦{fullShare} m1)
              ∗ (sL.view.loc (c : Thread nD τ) ↦{fullShare} l1)
              ∗ (sA.view.loc (c : Thread nD τ) ↦{fullShare} a1)) -∗ K ⟨⟩))
          ⊢ wp frame (wpE (defs₀ (F := Bits)) Variants.none c none) Set.univ (cc0_fox_attention i tQ (Memref.isWhole_whole _) tK (Memref.isWhole_whole _) arg4 harg4 arg5 harg5 arg6 harg6 arg7 harg7 arg8 harg8 arg9 harg9 sM (Memref.isWhole_whole _) sL (Memref.isWhole_whole _) sA (Memref.isWhole_whole _)) K } :=
  ⟨_, _, _, _, fun K => by
    rw [cc0_fox_attention_eq_skeleton]; unfold cc0_fox_attention_skel
    unfold owns
    iintro ⟨H0, H1, H2, H3, H4, HT0, HT1, ⟨%d5, %f5, -, HO5⟩, HS0, HS1, HS2, Hk⟩
    skip
    have hS0 : sM.IsWhole := Memref.isWhole_whole _
    have hS1 : sL.IsWhole := Memref.isWhole_whole _
    have hS2 : sA.IsWhole := Memref.isWhole_whole _
    have hT0 : tQ.IsWhole := Memref.isWhole_whole _
    have hT1 : tK.IsWhole := Memref.isWhole_whole _
    sl_exec! (disch := first | (guard_target = Scalar.cmpi _ _ _ = _; exact hc0) | (guard_target = ¬(Scalar.cmpi _ _ _ = _); exact hc1) | (guard_target = Scalar.cmpi _ _ _ = _; exact hc2) | (guard_target = k0_cond4 _ _ = _; exact hc4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    iexact HS2⟩

set_option backward.proofsInPublic true in
set_option maxHeartbeats 8000000 in
/-- The body at the first block of keys, below the diagonal: the scratch buffers are set and one step is taken; what it leaves, with the run that leaves it. -/
noncomputable def runFirstBelow (c : Dev nD) (i : grid0.Coords) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S512x128 .bf16) (harg9 : arg9.IsWhole) (T0 T1 : S136.Idx → Elt Bits .i32)
    (x0 x1 x2 : S512x128.Idx → Elt Bits .f32) (x3 x4 : S1x1x512.Idx → Elt Bits .f32) (xa0 : Buf (Elt Bits) ((c : Thread nD τ).loc cc0_scratch0)) (xa1 : Buf (Elt Bits) ((c : Thread nD τ).loc cc0_scratch1)) (xa2 : Buf (Elt Bits) ((c : Thread nD τ).loc cc0_scratch2))
    (hc0 : isFirst (wordK i T1) = 1#1) (hc1 : isBelow (wordQ i T0) (wordK i T1) = 1#1) (hc2 : ¬(isDiag (wordQ i T0) (wordK i T1) = 1#1)) (hc4 : ¬(k0_cond4 (wordQ i T0) (wordK i T1) = 1#1)) :
    Σ' (m1 : Buf (Elt Bits) ((c : Thread nD τ).loc cc0_scratch0)) (l1 : Buf (Elt Bits) ((c : Thread nD τ).loc cc0_scratch1)), { a1 : Buf (Elt Bits) ((c : Thread nD τ).loc cc0_scratch2) //
      ∀ (y5 : S512x128.Idx → Elt Bits .bf16) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tQ.view.loc (c : Thread nD τ) ↦{fullShare.right} T0)
          ∗ (tK.view.loc (c : Thread nD τ) ↦{fullShare.right} T1)
          ∗ owns (c : Thread nD τ) arg9 fullShare y5
          ∗ (sM.view.loc (c : Thread nD τ) ↦{fullShare} xa0)
          ∗ (sL.view.loc (c : Thread nD τ) ↦{fullShare} xa1)
          ∗ (sA.view.loc (c : Thread nD τ) ↦{fullShare} xa2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tQ.view.loc (c : Thread nD τ) ↦{fullShare.right} T0)
          ∗ (tK.view.loc (c : Thread nD τ) ↦{fullShare.right} T1)
          ∗ owns (c : Thread nD τ) arg9 fullShare y5
              ∗ (sM.view.loc (c : Thread nD τ) ↦{fullShare} m1)
              ∗ (sL.view.loc (c : Thread nD τ) ↦{fullShare} l1)
              ∗ (sA.view.loc (c : Thread nD τ) ↦{fullShare} a1)) -∗ K ⟨⟩))
          ⊢ wp frame (wpE (defs₀ (F := Bits)) Variants.none c none) Set.univ (cc0_fox_attention i tQ (Memref.isWhole_whole _) tK (Memref.isWhole_whole _) arg4 harg4 arg5 harg5 arg6 harg6 arg7 harg7 arg8 harg8 arg9 harg9 sM (Memref.isWhole_whole _) sL (Memref.isWhole_whole _) sA (Memref.isWhole_whole _)) K } :=
  ⟨_, _, _, fun y5 K => by
    rw [cc0_fox_attention_eq_skeleton]; unfold cc0_fox_attention_skel
    unfold owns
    iintro ⟨H0, H1, H2, H3, H4, HT0, HT1, ⟨%f5, %hf5, HO5⟩, HS0, HS1, HS2, Hk⟩
    obtain rfl := harg9.eq_unread hf5
    have hS0 : sM.IsWhole := Memref.isWhole_whole _
    have hS1 : sL.IsWhole := Memref.isWhole_whole _
    have hS2 : sA.IsWhole := Memref.isWhole_whole _
    have hT0 : tQ.IsWhole := Memref.isWhole_whole _
    have hT1 : tK.IsWhole := Memref.isWhole_whole _
    sl_exec! (disch := first | (guard_target = Scalar.cmpi _ _ _ = _; exact hc0) | (guard_target = Scalar.cmpi _ _ _ = _; exact hc1) | (guard_target = ¬(Scalar.cmpi _ _ _ = _); exact hc2) | (guard_target = ¬(k0_cond4 _ _ = _); exact hc4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; isplitr; (ipureintro; exact harg9.read_unread _); iexact HO5
    isplitl [HS0]; · iexact HS0
    isplitl [HS1]; · iexact HS1
    iexact HS2⟩

set_option backward.proofsInPublic true in
set_option maxHeartbeats 8000000 in
/-- The body at a later block of keys, which meets the diagonal: one masked step is taken and the result is stored; what it leaves, with the run that leaves it. -/
noncomputable def runLaterDiag (c : Dev nD) (i : grid0.Coords) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S512x128 .bf16) (harg9 : arg9.IsWhole) (T0 T1 : S136.Idx → Elt Bits .i32)
    (x0 x1 x2 : S512x128.Idx → Elt Bits .f32) (x3 x4 : S1x1x512.Idx → Elt Bits .f32) (xa0 : Buf (Elt Bits) ((c : Thread nD τ).loc cc0_scratch0)) (xa1 : Buf (Elt Bits) ((c : Thread nD τ).loc cc0_scratch1)) (xa2 : Buf (Elt Bits) ((c : Thread nD τ).loc cc0_scratch2))
    (hc0 : ¬(isFirst (wordK i T1) = 1#1)) (hc1 : ¬(isBelow (wordQ i T0) (wordK i T1) = 1#1)) (hc2 : isDiag (wordQ i T0) (wordK i T1) = 1#1) (hc4 : k0_cond4 (wordQ i T0) (wordK i T1) = 1#1) :
    Σ' (out0 : List (View.Piece (Elt Bits) S512x128 .bf16)) (m1 : Buf (Elt Bits) ((c : Thread nD τ).loc cc0_scratch0)) (l1 : Buf (Elt Bits) ((c : Thread nD τ).loc cc0_scratch1)), { a1 : Buf (Elt Bits) ((c : Thread nD τ).loc cc0_scratch2) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tQ.view.loc (c : Thread nD τ) ↦{fullShare.right} T0)
          ∗ (tK.view.loc (c : Thread nD τ) ↦{fullShare.right} T1)
          ∗ (∃ d, owns (c : Thread nD τ) arg9 fullShare d)
          ∗ (sM.view.loc (c : Thread nD τ) ↦{fullShare} xa0)
          ∗ (sL.view.loc (c : Thread nD τ) ↦{fullShare} xa1)
          ∗ (sA.view.loc (c : Thread nD τ) ↦{fullShare} xa2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tQ.view.loc (c : Thread nD τ) ↦{fullShare.right} T0)
          ∗ (tK.view.loc (c : Thread nD τ) ↦{fullShare.right} T1)
          ∗ (∃ f, arg9.view.loc (c : Thread nD τ) ↦[arg9.view.set]{fullShare} arg9.view.writes (Elt Bits) f out0)
              ∗ (sM.view.loc (c : Thread nD τ) ↦{fullShare} m1)
              ∗ (sL.view.loc (c : Thread nD τ) ↦{fullShare} l1)
              ∗ (sA.view.loc (c : Thread nD τ) ↦{fullShare} a1)) -∗ K ⟨⟩))
          ⊢ wp frame (wpE (defs₀ (F := Bits)) Variants.none c none) Set.univ (cc0_fox_attention i tQ (Memref.isWhole_whole _) tK (Memref.isWhole_whole _) arg4 harg4 arg5 harg5 arg6 harg6 arg7 harg7 arg8 harg8 arg9 harg9 sM (Memref.isWhole_whole _) sL (Memref.isWhole_whole _) sA (Memref.isWhole_whole _)) K } :=
  ⟨_, _, _, _, fun K => by
    rw [cc0_fox_attention_eq_skeleton]; unfold cc0_fox_attention_skel
    unfold owns
    iintro ⟨H0, H1, H2, H3, H4, HT0, HT1, ⟨%d5, %f5, -, HO5⟩, HS0, HS1, HS2, Hk⟩
    skip
    have hS0 : sM.IsWhole := Memref.isWhole_whole _
    have hS1 : sL.IsWhole := Memref.isWhole_whole _
    have hS2 : sA.IsWhole := Memref.isWhole_whole _
    have hT0 : tQ.IsWhole := Memref.isWhole_whole _
    have hT1 : tK.IsWhole := Memref.isWhole_whole _
    sl_exec! (disch := first | (guard_target = ¬(Scalar.cmpi _ _ _ = _); exact hc0) | (guard_target = ¬(Scalar.cmpi _ _ _ = _); exact hc1) | (guard_target = Scalar.cmpi _ _ _ = _; exact hc2) | (guard_target = k0_cond4 _ _ = _; exact hc4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    iexact HS2⟩

set_option backward.proofsInPublic true in
set_option maxHeartbeats 8000000 in
/-- The body at a later block of keys, below the diagonal: one step is taken; what it leaves, with the run that leaves it. -/
noncomputable def runLaterBelow (c : Dev nD) (i : grid0.Coords) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S512x128 .bf16) (harg9 : arg9.IsWhole) (T0 T1 : S136.Idx → Elt Bits .i32)
    (x0 x1 x2 : S512x128.Idx → Elt Bits .f32) (x3 x4 : S1x1x512.Idx → Elt Bits .f32) (xa0 : Buf (Elt Bits) ((c : Thread nD τ).loc cc0_scratch0)) (xa1 : Buf (Elt Bits) ((c : Thread nD τ).loc cc0_scratch1)) (xa2 : Buf (Elt Bits) ((c : Thread nD τ).loc cc0_scratch2))
    (hc0 : ¬(isFirst (wordK i T1) = 1#1)) (hc1 : isBelow (wordQ i T0) (wordK i T1) = 1#1) (hc2 : ¬(isDiag (wordQ i T0) (wordK i T1) = 1#1)) (hc4 : ¬(k0_cond4 (wordQ i T0) (wordK i T1) = 1#1)) :
    Σ' (m1 : Buf (Elt Bits) ((c : Thread nD τ).loc cc0_scratch0)) (l1 : Buf (Elt Bits) ((c : Thread nD τ).loc cc0_scratch1)), { a1 : Buf (Elt Bits) ((c : Thread nD τ).loc cc0_scratch2) //
      ∀ (y5 : S512x128.Idx → Elt Bits .bf16) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tQ.view.loc (c : Thread nD τ) ↦{fullShare.right} T0)
          ∗ (tK.view.loc (c : Thread nD τ) ↦{fullShare.right} T1)
          ∗ owns (c : Thread nD τ) arg9 fullShare y5
          ∗ (sM.view.loc (c : Thread nD τ) ↦{fullShare} xa0)
          ∗ (sL.view.loc (c : Thread nD τ) ↦{fullShare} xa1)
          ∗ (sA.view.loc (c : Thread nD τ) ↦{fullShare} xa2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tQ.view.loc (c : Thread nD τ) ↦{fullShare.right} T0)
          ∗ (tK.view.loc (c : Thread nD τ) ↦{fullShare.right} T1)
          ∗ owns (c : Thread nD τ) arg9 fullShare y5
              ∗ (sM.view.loc (c : Thread nD τ) ↦{fullShare} m1)
              ∗ (sL.view.loc (c : Thread nD τ) ↦{fullShare} l1)
              ∗ (sA.view.loc (c : Thread nD τ) ↦{fullShare} a1)) -∗ K ⟨⟩))
          ⊢ wp frame (wpE (defs₀ (F := Bits)) Variants.none c none) Set.univ (cc0_fox_attention i tQ (Memref.isWhole_whole _) tK (Memref.isWhole_whole _) arg4 harg4 arg5 harg5 arg6 harg6 arg7 harg7 arg8 harg8 arg9 harg9 sM (Memref.isWhole_whole _) sL (Memref.isWhole_whole _) sA (Memref.isWhole_whole _)) K } :=
  ⟨_, _, _, fun y5 K => by
    rw [cc0_fox_attention_eq_skeleton]; unfold cc0_fox_attention_skel
    unfold owns
    iintro ⟨H0, H1, H2, H3, H4, HT0, HT1, ⟨%f5, %hf5, HO5⟩, HS0, HS1, HS2, Hk⟩
    obtain rfl := harg9.eq_unread hf5
    have hS0 : sM.IsWhole := Memref.isWhole_whole _
    have hS1 : sL.IsWhole := Memref.isWhole_whole _
    have hS2 : sA.IsWhole := Memref.isWhole_whole _
    have hT0 : tQ.IsWhole := Memref.isWhole_whole _
    have hT1 : tK.IsWhole := Memref.isWhole_whole _
    sl_exec! (disch := first | (guard_target = ¬(Scalar.cmpi _ _ _ = _); exact hc0) | (guard_target = Scalar.cmpi _ _ _ = _; exact hc1) | (guard_target = ¬(Scalar.cmpi _ _ _ = _); exact hc2) | (guard_target = ¬(k0_cond4 _ _ = _); exact hc4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; isplitr; (ipureintro; exact harg9.read_unread _); iexact HO5
    isplitl [HS0]; · iexact HS0
    isplitl [HS1]; · iexact HS1
    iexact HS2⟩

end Cert.Kernel.Attn

end
-- ==== Proof.StepKernel.lean ====
/- One step of the kernel at a grid point: what it makes of the scratch buffers' contents, on each of the four ways the
   tables may steer it. -/
module

public import proofs.«01_k».proof.Proof.BodyKernel
public import Idealize.ShloMosaic.Lib.VecWindow
public import Idealize.ShloMosaic.Lib.Pipeline.Value
public import Idealize.ShloMosaic.Lib.Pipeline.Frame

@[expose] public section

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- What the three scratch buffers hold: the largest scores, the sums of the weights, the weighted sums. -/
@[ext] structure State where
  m : S512x1.Idx → Elt Bits .f32
  l : S512x1.Idx → Elt Bits .f32
  a : S512x128.Idx → Elt Bits .f32

/-- What the scratch buffers are set to at the first block of keys. -/
def start : State := ⟨k0_pay20 (F := Bits), k0_pay21 (F := Bits), k0_pay22 (F := Bits)⟩

/-- A step at a block of keys below the diagonal. -/
def below (x0 x1 x2 : S512x128.Idx → Elt Bits .f32) (x3 x4 : S1x1x512.Idx → Elt Bits .f32) (S : State) : State :=
  ⟨k0_pay2 (k0_pay8 x0 x1 x3 x4 S.m), k0_pay11 x0 x1 x3 x4 S.m S.l, k0_pay1 (k0_pay12 x0 x1 x3 x4 S.m S.a) (k0_pay13 x0 x1 x3 x4 S.m) x2⟩

/-- A step at the block of keys on the diagonal. -/
def diag (q k : BitVec 32) (x0 x1 x2 : S512x128.Idx → Elt Bits .f32) (x3 x4 : S1x1x512.Idx → Elt Bits .f32) (S : State) : State :=
  ⟨k0_pay5 (k0_pay15 q k x0 x1 x3 x4 S.m), k0_pay3 (k0_pay18 q k x0 x1 x3 x4 S.m S.l) (k0_pay19 q k x0 x1 x3 x4 S.m),
    k0_pay4 (k0_pay16 q k x0 x1 x3 x4 S.m) (k0_pay17 q k x0 x1 x3 x4 S.m) S.a x2⟩

/-- What is stored to the result's block. -/
def out (S : State) : S512x128.Idx → Elt Bits .bf16 := k0_pay6 S.a S.l

/-- What the scratch buffers read as. -/
def readState (c : Dev nD) (f0 : Buf (Elt Bits) ((c : Thread nD τ).loc cc0_scratch0)) (f1 : Buf (Elt Bits) ((c : Thread nD τ).loc cc0_scratch1)) (f2 : Buf (Elt Bits) ((c : Thread nD τ).loc cc0_scratch2)) : State :=
  ⟨sM.view.read (Elt Bits) f0, sL.view.read (Elt Bits) f1, sA.view.read (Elt Bits) f2⟩

/-- Offsets all zero. -/
theorem off2 : (![0, 0] : Fin 2 → ℕ) = fun _ => 0 := by funext a; fin_cases a <;> rfl

/-- A store over a whole buffer, last, is what the buffer reads as. -/
theorem read_full {κ : Kind} {sp : Space} {s : Shape} {e : EltTy} (v : View sig κ sp s e) (f : v.ty.Contents (Elt Bits)) {off : Fin s.rank → ℕ} (h : off = fun _ => 0)
    (inb : ∀ a, off a + s.size a ≤ s.size a) (w : s.Idx → Elt Bits e) (L : List (View.Piece (Elt Bits) s e)) :
    v.read (Elt Bits) (v.writes (Elt Bits) f (⟨Rect.unit off s.size inb, w⟩ :: L)) = w :=
  (View.read_writes_eq_canon v f _ fun y => ⟨_, List.mem_cons_self .., View.mem_set_unit_zero h inb y⟩).trans (View.canon_cons_unit_zero h inb w L)

/-- A load over a whole buffer of what such a store left. -/
theorem readCov_full {κ : Kind} {sp : Space} {s : Shape} {e : EltTy} (v : View sig κ sp s e) {off off' : Fin s.rank → ℕ} (h : off = fun _ => 0)
    (inb : ∀ a, off a + s.size a ≤ s.size a) (inb' : ∀ a, off' a + s.size a ≤ s.size a) (w : s.Idx → Elt Bits e) (L : List (View.Piece (Elt Bits) s e)) :
    v.readCov (⟨Rect.unit off s.size inb, w⟩ :: L) (Rect.unit off' s.size inb').toLoadRect = w :=
  (View.readAt_full v _ inb').trans (read_full v _ h inb w L)

section Results

variable (c : Dev nD) (i : grid0.Coords) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S512x128 .bf16) (harg9 : arg9.IsWhole) (T0 T1 : S136.Idx → Elt Bits .i32)
    (x0 x1 x2 : S512x128.Idx → Elt Bits .f32) (x3 x4 : S1x1x512.Idx → Elt Bits .f32) (f0 : Buf (Elt Bits) ((c : Thread nD τ).loc cc0_scratch0)) (f1 : Buf (Elt Bits) ((c : Thread nD τ).loc cc0_scratch1)) (f2 : Buf (Elt Bits) ((c : Thread nD τ).loc cc0_scratch2))

/-- A load of a window's block reads the block. -/
theorem ld2 (a : Memref sig .tc .vmem S512x128 .f32) (x : S512x128.Idx → Elt Bits .f32) :
    View.readAt (Elt Bits) a.view (Rect.unit ![0, 0] S512x128.size inb_S512x128_S512x128_0_0).toLoadRect (a.view.rep x) = x := View.readAt_rep_full a.view x _
theorem ld3 (a : Memref sig .tc .vmem S1x1x512 .f32) (x : S1x1x512.Idx → Elt Bits .f32) :
    View.readAt (Elt Bits) a.view (Rect.unit ![0, 0, 0] S1x1x512.size inb_S1x1x512_S1x1x512_0_0_0).toLoadRect (a.view.rep x) = x := View.readAt_rep_full a.view x _
/-- A load of a scratch buffer reads it. -/
theorem ldM (f : Buf (Elt Bits) ((c : Thread nD τ).loc cc0_scratch0)) : View.readAt (Elt Bits) sM.view (Rect.unit ![0, 0] S512x1.size inb_S512x1_S512x1_0_0).toLoadRect f = sM.view.read (Elt Bits) f := View.readAt_full sM.view f _
theorem ldL (f : Buf (Elt Bits) ((c : Thread nD τ).loc cc0_scratch1)) : View.readAt (Elt Bits) sL.view (Rect.unit ![0, 0] S512x1.size inb_S512x1_S512x1_0_0).toLoadRect f = sL.view.read (Elt Bits) f := View.readAt_full sL.view f _
theorem ldA (f : Buf (Elt Bits) ((c : Thread nD τ).loc cc0_scratch2)) : View.readAt (Elt Bits) sA.view (Rect.unit ![0, 0] S512x128.size inb_S512x128_S512x128_0_0).toLoadRect f = sA.view.read (Elt Bits) f := View.readAt_full sA.view f _
/-- A load of a scratch buffer just set reads what it was set to. -/
theorem ldM0 : sM.view.readCov [(⟨Rect.unit ![0, 0] S512x1.size inb_S512x1_S512x1_0_0, k0_pay20 (F := Bits)⟩ : View.Piece (Elt Bits) S512x1 .f32)] (Rect.unit ![0, 0] S512x1.size inb_S512x1_S512x1_0_0).toLoadRect = k0_pay20 (F := Bits) := readCov_full sM.view off2 _ _ _ _
theorem ldL0 : sL.view.readCov [(⟨Rect.unit ![0, 0] S512x1.size inb_S512x1_S512x1_0_0, k0_pay21 (F := Bits)⟩ : View.Piece (Elt Bits) S512x1 .f32)] (Rect.unit ![0, 0] S512x1.size inb_S512x1_S512x1_0_0).toLoadRect = k0_pay21 (F := Bits) := readCov_full sL.view off2 _ _ _ _
theorem ldA0 : sA.view.readCov [(⟨Rect.unit ![0, 0] S512x128.size inb_S512x128_S512x128_0_0, k0_pay22 (F := Bits)⟩ : View.Piece (Elt Bits) S512x128 .f32)] (Rect.unit ![0, 0] S512x128.size inb_S512x128_S512x128_0_0).toLoadRect = k0_pay22 (F := Bits) := readCov_full sA.view off2 _ _ _ _

theorem readFirstDiag_m (hc0 : isFirst (wordK i T1) = 1#1) (hc1 : ¬(isBelow (wordQ i T0) (wordK i T1) = 1#1)) (hc2 : isDiag (wordQ i T0) (wordK i T1) = 1#1) (hc4 : k0_cond4 (wordQ i T0) (wordK i T1) = 1#1) : sM.view.read (Elt Bits) (runFirstDiag c i arg4 harg4 arg5 harg5 arg6 harg6 arg7 harg7 arg8 harg8 arg9 harg9 T0 T1 x0 x1 x2 x3 x4 f0 f1 f2 hc0 hc1 hc2 hc4).2.1 = k0_pay5 (k0_pay15 (wordQ i T0) (wordK i T1) x0 x1 x3 x4 (k0_pay20 (F := Bits))) := by
  refine (read_full sM.view _ off2 inb_S512x1_S512x1_0_0 _ _).trans ?_
  conv => rhs; rw [← ld2 arg4 x0, ← ld2 arg5 x1, ← ld3 arg7 x3, ← ld3 arg8 x4, ← ldM0]
  all_goals rfl
theorem readFirstDiag_l (hc0 : isFirst (wordK i T1) = 1#1) (hc1 : ¬(isBelow (wordQ i T0) (wordK i T1) = 1#1)) (hc2 : isDiag (wordQ i T0) (wordK i T1) = 1#1) (hc4 : k0_cond4 (wordQ i T0) (wordK i T1) = 1#1) : sL.view.read (Elt Bits) (runFirstDiag c i arg4 harg4 arg5 harg5 arg6 harg6 arg7 harg7 arg8 harg8 arg9 harg9 T0 T1 x0 x1 x2 x3 x4 f0 f1 f2 hc0 hc1 hc2 hc4).2.2.1 = k0_pay3 (k0_pay18 (wordQ i T0) (wordK i T1) x0 x1 x3 x4 (k0_pay20 (F := Bits)) (k0_pay21 (F := Bits))) (k0_pay19 (wordQ i T0) (wordK i T1) x0 x1 x3 x4 (k0_pay20 (F := Bits))) := by
  refine (read_full sL.view _ off2 inb_S512x1_S512x1_0_0 _ _).trans ?_
  conv => rhs; rw [← ld2 arg4 x0, ← ld2 arg5 x1, ← ld3 arg7 x3, ← ld3 arg8 x4, ← ldM0, ← ldL0]
  all_goals rfl
theorem readFirstDiag_a (hc0 : isFirst (wordK i T1) = 1#1) (hc1 : ¬(isBelow (wordQ i T0) (wordK i T1) = 1#1)) (hc2 : isDiag (wordQ i T0) (wordK i T1) = 1#1) (hc4 : k0_cond4 (wordQ i T0) (wordK i T1) = 1#1) : sA.view.read (Elt Bits) (runFirstDiag c i arg4 harg4 arg5 harg5 arg6 harg6 arg7 harg7 arg8 harg8 arg9 harg9 T0 T1 x0 x1 x2 x3 x4 f0 f1 f2 hc0 hc1 hc2 hc4).2.2.2.1 = k0_pay4 (k0_pay16 (wordQ i T0) (wordK i T1) x0 x1 x3 x4 (k0_pay20 (F := Bits))) (k0_pay17 (wordQ i T0) (wordK i T1) x0 x1 x3 x4 (k0_pay20 (F := Bits))) (k0_pay22 (F := Bits)) x2 := by
  refine (read_full sA.view _ off2 inb_S512x128_S512x128_0_0 _ _).trans ?_
  conv => rhs; rw [← ld2 arg4 x0, ← ld2 arg5 x1, ← ld3 arg7 x3, ← ld3 arg8 x4, ← ld2 arg6 x2, ← ldM0, ← ldA0]
  all_goals rfl
/-- What the scratch buffers read as afterwards. -/
theorem readFirstDiag (hc0 : isFirst (wordK i T1) = 1#1) (hc1 : ¬(isBelow (wordQ i T0) (wordK i T1) = 1#1)) (hc2 : isDiag (wordQ i T0) (wordK i T1) = 1#1) (hc4 : k0_cond4 (wordQ i T0) (wordK i T1) = 1#1) : readState c (runFirstDiag c i arg4 harg4 arg5 harg5 arg6 harg6 arg7 harg7 arg8 harg8 arg9 harg9 T0 T1 x0 x1 x2 x3 x4 f0 f1 f2 hc0 hc1 hc2 hc4).2.1 (runFirstDiag c i arg4 harg4 arg5 harg5 arg6 harg6 arg7 harg7 arg8 harg8 arg9 harg9 T0 T1 x0 x1 x2 x3 x4 f0 f1 f2 hc0 hc1 hc2 hc4).2.2.1 (runFirstDiag c i arg4 harg4 arg5 harg5 arg6 harg6 arg7 harg7 arg8 harg8 arg9 harg9 T0 T1 x0 x1 x2 x3 x4 f0 f1 f2 hc0 hc1 hc2 hc4).2.2.2.1 = diag (wordQ i T0) (wordK i T1) x0 x1 x2 x3 x4 start := by
  unfold readState
  rw [readFirstDiag_m, readFirstDiag_l, readFirstDiag_a]
  rfl
/-- What is stored to the result's block. -/
theorem outFirstDiag (f : arg9.view.ty.Contents (Elt Bits)) (hc0 : isFirst (wordK i T1) = 1#1) (hc1 : ¬(isBelow (wordQ i T0) (wordK i T1) = 1#1)) (hc2 : isDiag (wordQ i T0) (wordK i T1) = 1#1) (hc4 : k0_cond4 (wordQ i T0) (wordK i T1) = 1#1) : arg9.view.read (Elt Bits) (arg9.view.writes (Elt Bits) f (runFirstDiag c i arg4 harg4 arg5 harg5 arg6 harg6 arg7 harg7 arg8 harg8 arg9 harg9 T0 T1 x0 x1 x2 x3 x4 f0 f1 f2 hc0 hc1 hc2 hc4).1) = out (diag (wordQ i T0) (wordK i T1) x0 x1 x2 x3 x4 start) := by
  refine (read_full arg9.view _ off2 inb_S512x128_S512x128_0_0 _ _).trans ?_
  refine congrArg₂ (k0_pay6 (F := Bits)) (x' := k0_pay4 (k0_pay16 (wordQ i T0) (wordK i T1) x0 x1 x3 x4 (k0_pay20 (F := Bits))) (k0_pay17 (wordQ i T0) (wordK i T1) x0 x1 x3 x4 (k0_pay20 (F := Bits))) (k0_pay22 (F := Bits)) x2) (y' := k0_pay3 (k0_pay18 (wordQ i T0) (wordK i T1) x0 x1 x3 x4 (k0_pay20 (F := Bits)) (k0_pay21 (F := Bits))) (k0_pay19 (wordQ i T0) (wordK i T1) x0 x1 x3 x4 (k0_pay20 (F := Bits)))) ((readCov_full sA.view off2 inb_S512x128_S512x128_0_0 _ _ _).trans ?_) ((readCov_full sL.view off2 inb_S512x1_S512x1_0_0 _ _ _).trans ?_)
  · skip
    conv => rhs; rw [← ld2 arg4 x0, ← ld2 arg5 x1, ← ld3 arg7 x3, ← ld3 arg8 x4, ← ld2 arg6 x2, ← ldM0, ← ldA0]
    rfl
  · conv => rhs; rw [← ld2 arg4 x0, ← ld2 arg5 x1, ← ld3 arg7 x3, ← ld3 arg8 x4, ← ldM0, ← ldL0]
    rfl

theorem readFirstBelow_m (hc0 : isFirst (wordK i T1) = 1#1) (hc1 : isBelow (wordQ i T0) (wordK i T1) = 1#1) (hc2 : ¬(isDiag (wordQ i T0) (wordK i T1) = 1#1)) (hc4 : ¬(k0_cond4 (wordQ i T0) (wordK i T1) = 1#1)) : sM.view.read (Elt Bits) (runFirstBelow c i arg4 harg4 arg5 harg5 arg6 harg6 arg7 harg7 arg8 harg8 arg9 harg9 T0 T1 x0 x1 x2 x3 x4 f0 f1 f2 hc0 hc1 hc2 hc4).1 = k0_pay2 (k0_pay8 x0 x1 x3 x4 (k0_pay20 (F := Bits))) := by
  refine (read_full sM.view _ off2 inb_S512x1_S512x1_0_0 _ _).trans ?_
  conv => rhs; rw [← ld2 arg4 x0, ← ld2 arg5 x1, ← ld3 arg7 x3, ← ld3 arg8 x4, ← ldM0]
  all_goals rfl
theorem readFirstBelow_l (hc0 : isFirst (wordK i T1) = 1#1) (hc1 : isBelow (wordQ i T0) (wordK i T1) = 1#1) (hc2 : ¬(isDiag (wordQ i T0) (wordK i T1) = 1#1)) (hc4 : ¬(k0_cond4 (wordQ i T0) (wordK i T1) = 1#1)) : sL.view.read (Elt Bits) (runFirstBelow c i arg4 harg4 arg5 harg5 arg6 harg6 arg7 harg7 arg8 harg8 arg9 harg9 T0 T1 x0 x1 x2 x3 x4 f0 f1 f2 hc0 hc1 hc2 hc4).2.1 = k0_pay11 x0 x1 x3 x4 (k0_pay20 (F := Bits)) (k0_pay21 (F := Bits)) := by
  refine (read_full sL.view _ off2 inb_S512x1_S512x1_0_0 _ _).trans ?_
  conv => rhs; rw [← ld2 arg4 x0, ← ld2 arg5 x1, ← ld3 arg7 x3, ← ld3 arg8 x4, ← ldM0, ← ldL0]
  all_goals rfl
theorem readFirstBelow_a (hc0 : isFirst (wordK i T1) = 1#1) (hc1 : isBelow (wordQ i T0) (wordK i T1) = 1#1) (hc2 : ¬(isDiag (wordQ i T0) (wordK i T1) = 1#1)) (hc4 : ¬(k0_cond4 (wordQ i T0) (wordK i T1) = 1#1)) : sA.view.read (Elt Bits) (runFirstBelow c i arg4 harg4 arg5 harg5 arg6 harg6 arg7 harg7 arg8 harg8 arg9 harg9 T0 T1 x0 x1 x2 x3 x4 f0 f1 f2 hc0 hc1 hc2 hc4).2.2.1 = k0_pay1 (k0_pay12 x0 x1 x3 x4 (k0_pay20 (F := Bits)) (k0_pay22 (F := Bits))) (k0_pay13 x0 x1 x3 x4 (k0_pay20 (F := Bits))) x2 := by
  refine (read_full sA.view _ off2 inb_S512x128_S512x128_0_0 _ _).trans ?_
  conv => rhs; rw [← ld2 arg4 x0, ← ld2 arg5 x1, ← ld3 arg7 x3, ← ld3 arg8 x4, ← ld2 arg6 x2, ← ldM0, ← ldA0]
  all_goals rfl
/-- What the scratch buffers read as afterwards. -/
theorem readFirstBelow (hc0 : isFirst (wordK i T1) = 1#1) (hc1 : isBelow (wordQ i T0) (wordK i T1) = 1#1) (hc2 : ¬(isDiag (wordQ i T0) (wordK i T1) = 1#1)) (hc4 : ¬(k0_cond4 (wordQ i T0) (wordK i T1) = 1#1)) : readState c (runFirstBelow c i arg4 harg4 arg5 harg5 arg6 harg6 arg7 harg7 arg8 harg8 arg9 harg9 T0 T1 x0 x1 x2 x3 x4 f0 f1 f2 hc0 hc1 hc2 hc4).1 (runFirstBelow c i arg4 harg4 arg5 harg5 arg6 harg6 arg7 harg7 arg8 harg8 arg9 harg9 T0 T1 x0 x1 x2 x3 x4 f0 f1 f2 hc0 hc1 hc2 hc4).2.1 (runFirstBelow c i arg4 harg4 arg5 harg5 arg6 harg6 arg7 harg7 arg8 harg8 arg9 harg9 T0 T1 x0 x1 x2 x3 x4 f0 f1 f2 hc0 hc1 hc2 hc4).2.2.1 = below x0 x1 x2 x3 x4 start := by
  unfold readState
  rw [readFirstBelow_m, readFirstBelow_l, readFirstBelow_a]
  rfl

theorem readLaterDiag_m (hc0 : ¬(isFirst (wordK i T1) = 1#1)) (hc1 : ¬(isBelow (wordQ i T0) (wordK i T1) = 1#1)) (hc2 : isDiag (wordQ i T0) (wordK i T1) = 1#1) (hc4 : k0_cond4 (wordQ i T0) (wordK i T1) = 1#1) : sM.view.read (Elt Bits) (runLaterDiag c i arg4 harg4 arg5 harg5 arg6 harg6 arg7 harg7 arg8 harg8 arg9 harg9 T0 T1 x0 x1 x2 x3 x4 f0 f1 f2 hc0 hc1 hc2 hc4).2.1 = k0_pay5 (k0_pay15 (wordQ i T0) (wordK i T1) x0 x1 x3 x4 (sM.view.read (Elt Bits) f0)) := by
  refine (read_full sM.view _ off2 inb_S512x1_S512x1_0_0 _ _).trans ?_
  conv => rhs; rw [← ld2 arg4 x0, ← ld2 arg5 x1, ← ld3 arg7 x3, ← ld3 arg8 x4, ← ldM c f0]
  all_goals rfl
theorem readLaterDiag_l (hc0 : ¬(isFirst (wordK i T1) = 1#1)) (hc1 : ¬(isBelow (wordQ i T0) (wordK i T1) = 1#1)) (hc2 : isDiag (wordQ i T0) (wordK i T1) = 1#1) (hc4 : k0_cond4 (wordQ i T0) (wordK i T1) = 1#1) : sL.view.read (Elt Bits) (runLaterDiag c i arg4 harg4 arg5 harg5 arg6 harg6 arg7 harg7 arg8 harg8 arg9 harg9 T0 T1 x0 x1 x2 x3 x4 f0 f1 f2 hc0 hc1 hc2 hc4).2.2.1 = k0_pay3 (k0_pay18 (wordQ i T0) (wordK i T1) x0 x1 x3 x4 (sM.view.read (Elt Bits) f0) (sL.view.read (Elt Bits) f1)) (k0_pay19 (wordQ i T0) (wordK i T1) x0 x1 x3 x4 (sM.view.read (Elt Bits) f0)) := by
  refine (read_full sL.view _ off2 inb_S512x1_S512x1_0_0 _ _).trans ?_
  conv => rhs; rw [← ld2 arg4 x0, ← ld2 arg5 x1, ← ld3 arg7 x3, ← ld3 arg8 x4, ← ldM c f0, ← ldL c f1]
  all_goals rfl
theorem readLaterDiag_a (hc0 : ¬(isFirst (wordK i T1) = 1#1)) (hc1 : ¬(isBelow (wordQ i T0) (wordK i T1) = 1#1)) (hc2 : isDiag (wordQ i T0) (wordK i T1) = 1#1) (hc4 : k0_cond4 (wordQ i T0) (wordK i T1) = 1#1) : sA.view.read (Elt Bits) (runLaterDiag c i arg4 harg4 arg5 harg5 arg6 harg6 arg7 harg7 arg8 harg8 arg9 harg9 T0 T1 x0 x1 x2 x3 x4 f0 f1 f2 hc0 hc1 hc2 hc4).2.2.2.1 = k0_pay4 (k0_pay16 (wordQ i T0) (wordK i T1) x0 x1 x3 x4 (sM.view.read (Elt Bits) f0)) (k0_pay17 (wordQ i T0) (wordK i T1) x0 x1 x3 x4 (sM.view.read (Elt Bits) f0)) (sA.view.read (Elt Bits) f2) x2 := by
  refine (read_full sA.view _ off2 inb_S512x128_S512x128_0_0 _ _).trans ?_
  conv => rhs; rw [← ld2 arg4 x0, ← ld2 arg5 x1, ← ld3 arg7 x3, ← ld3 arg8 x4, ← ld2 arg6 x2, ← ldM c f0, ← ldA c f2]
  all_goals rfl
/-- What the scratch buffers read as afterwards. -/
theorem readLaterDiag (hc0 : ¬(isFirst (wordK i T1) = 1#1)) (hc1 : ¬(isBelow (wordQ i T0) (wordK i T1) = 1#1)) (hc2 : isDiag (wordQ i T0) (wordK i T1) = 1#1) (hc4 : k0_cond4 (wordQ i T0) (wordK i T1) = 1#1) : readState c (runLaterDiag c i arg4 harg4 arg5 harg5 arg6 harg6 arg7 harg7 arg8 harg8 arg9 harg9 T0 T1 x0 x1 x2 x3 x4 f0 f1 f2 hc0 hc1 hc2 hc4).2.1 (runLaterDiag c i arg4 harg4 arg5 harg5 arg6 harg6 arg7 harg7 arg8 harg8 arg9 harg9 T0 T1 x0 x1 x2 x3 x4 f0 f1 f2 hc0 hc1 hc2 hc4).2.2.1 (runLaterDiag c i arg4 harg4 arg5 harg5 arg6 harg6 arg7 harg7 arg8 harg8 arg9 harg9 T0 T1 x0 x1 x2 x3 x4 f0 f1 f2 hc0 hc1 hc2 hc4).2.2.2.1 = diag (wordQ i T0) (wordK i T1) x0 x1 x2 x3 x4 (readState c f0 f1 f2) := by
  unfold readState
  rw [readLaterDiag_m, readLaterDiag_l, readLaterDiag_a]
  rfl
/-- What is stored to the result's block. -/
theorem outLaterDiag (f : arg9.view.ty.Contents (Elt Bits)) (hc0 : ¬(isFirst (wordK i T1) = 1#1)) (hc1 : ¬(isBelow (wordQ i T0) (wordK i T1) = 1#1)) (hc2 : isDiag (wordQ i T0) (wordK i T1) = 1#1) (hc4 : k0_cond4 (wordQ i T0) (wordK i T1) = 1#1) : arg9.view.read (Elt Bits) (arg9.view.writes (Elt Bits) f (runLaterDiag c i arg4 harg4 arg5 harg5 arg6 harg6 arg7 harg7 arg8 harg8 arg9 harg9 T0 T1 x0 x1 x2 x3 x4 f0 f1 f2 hc0 hc1 hc2 hc4).1) = out (diag (wordQ i T0) (wordK i T1) x0 x1 x2 x3 x4 (readState c f0 f1 f2)) := by
  refine (read_full arg9.view _ off2 inb_S512x128_S512x128_0_0 _ _).trans ?_
  refine congrArg₂ (k0_pay6 (F := Bits)) (x' := k0_pay4 (k0_pay16 (wordQ i T0) (wordK i T1) x0 x1 x3 x4 (sM.view.read (Elt Bits) f0)) (k0_pay17 (wordQ i T0) (wordK i T1) x0 x1 x3 x4 (sM.view.read (Elt Bits) f0)) (sA.view.read (Elt Bits) f2) x2) (y' := k0_pay3 (k0_pay18 (wordQ i T0) (wordK i T1) x0 x1 x3 x4 (sM.view.read (Elt Bits) f0) (sL.view.read (Elt Bits) f1)) (k0_pay19 (wordQ i T0) (wordK i T1) x0 x1 x3 x4 (sM.view.read (Elt Bits) f0))) ((readCov_full sA.view off2 inb_S512x128_S512x128_0_0 _ _ _).trans ?_) ((readCov_full sL.view off2 inb_S512x1_S512x1_0_0 _ _ _).trans ?_)
  · skip
    conv => rhs; rw [← ld2 arg4 x0, ← ld2 arg5 x1, ← ld3 arg7 x3, ← ld3 arg8 x4, ← ld2 arg6 x2, ← ldM c f0, ← ldA c f2]
    rfl
  · conv => rhs; rw [← ld2 arg4 x0, ← ld2 arg5 x1, ← ld3 arg7 x3, ← ld3 arg8 x4, ← ldM c f0, ← ldL c f1]
    rfl

theorem readLaterBelow_m (hc0 : ¬(isFirst (wordK i T1) = 1#1)) (hc1 : isBelow (wordQ i T0) (wordK i T1) = 1#1) (hc2 : ¬(isDiag (wordQ i T0) (wordK i T1) = 1#1)) (hc4 : ¬(k0_cond4 (wordQ i T0) (wordK i T1) = 1#1)) : sM.view.read (Elt Bits) (runLaterBelow c i arg4 harg4 arg5 harg5 arg6 harg6 arg7 harg7 arg8 harg8 arg9 harg9 T0 T1 x0 x1 x2 x3 x4 f0 f1 f2 hc0 hc1 hc2 hc4).1 = k0_pay2 (k0_pay8 x0 x1 x3 x4 (sM.view.read (Elt Bits) f0)) := by
  refine (read_full sM.view _ off2 inb_S512x1_S512x1_0_0 _ _).trans ?_
  conv => rhs; rw [← ld2 arg4 x0, ← ld2 arg5 x1, ← ld3 arg7 x3, ← ld3 arg8 x4, ← ldM c f0]
  all_goals rfl
theorem readLaterBelow_l (hc0 : ¬(isFirst (wordK i T1) = 1#1)) (hc1 : isBelow (wordQ i T0) (wordK i T1) = 1#1) (hc2 : ¬(isDiag (wordQ i T0) (wordK i T1) = 1#1)) (hc4 : ¬(k0_cond4 (wordQ i T0) (wordK i T1) = 1#1)) : sL.view.read (Elt Bits) (runLaterBelow c i arg4 harg4 arg5 harg5 arg6 harg6 arg7 harg7 arg8 harg8 arg9 harg9 T0 T1 x0 x1 x2 x3 x4 f0 f1 f2 hc0 hc1 hc2 hc4).2.1 = k0_pay11 x0 x1 x3 x4 (sM.view.read (Elt Bits) f0) (sL.view.read (Elt Bits) f1) := by
  refine (read_full sL.view _ off2 inb_S512x1_S512x1_0_0 _ _).trans ?_
  conv => rhs; rw [← ld2 arg4 x0, ← ld2 arg5 x1, ← ld3 arg7 x3, ← ld3 arg8 x4, ← ldM c f0, ← ldL c f1]
  all_goals rfl
theorem readLaterBelow_a (hc0 : ¬(isFirst (wordK i T1) = 1#1)) (hc1 : isBelow (wordQ i T0) (wordK i T1) = 1#1) (hc2 : ¬(isDiag (wordQ i T0) (wordK i T1) = 1#1)) (hc4 : ¬(k0_cond4 (wordQ i T0) (wordK i T1) = 1#1)) : sA.view.read (Elt Bits) (runLaterBelow c i arg4 harg4 arg5 harg5 arg6 harg6 arg7 harg7 arg8 harg8 arg9 harg9 T0 T1 x0 x1 x2 x3 x4 f0 f1 f2 hc0 hc1 hc2 hc4).2.2.1 = k0_pay1 (k0_pay12 x0 x1 x3 x4 (sM.view.read (Elt Bits) f0) (sA.view.read (Elt Bits) f2)) (k0_pay13 x0 x1 x3 x4 (sM.view.read (Elt Bits) f0)) x2 := by
  refine (read_full sA.view _ off2 inb_S512x128_S512x128_0_0 _ _).trans ?_
  conv => rhs; rw [← ld2 arg4 x0, ← ld2 arg5 x1, ← ld3 arg7 x3, ← ld3 arg8 x4, ← ld2 arg6 x2, ← ldM c f0, ← ldA c f2]
  all_goals rfl
/-- What the scratch buffers read as afterwards. -/
theorem readLaterBelow (hc0 : ¬(isFirst (wordK i T1) = 1#1)) (hc1 : isBelow (wordQ i T0) (wordK i T1) = 1#1) (hc2 : ¬(isDiag (wordQ i T0) (wordK i T1) = 1#1)) (hc4 : ¬(k0_cond4 (wordQ i T0) (wordK i T1) = 1#1)) : readState c (runLaterBelow c i arg4 harg4 arg5 harg5 arg6 harg6 arg7 harg7 arg8 harg8 arg9 harg9 T0 T1 x0 x1 x2 x3 x4 f0 f1 f2 hc0 hc1 hc2 hc4).1 (runLaterBelow c i arg4 harg4 arg5 harg5 arg6 harg6 arg7 harg7 arg8 harg8 arg9 harg9 T0 T1 x0 x1 x2 x3 x4 f0 f1 f2 hc0 hc1 hc2 hc4).2.1 (runLaterBelow c i arg4 harg4 arg5 harg5 arg6 harg6 arg7 harg7 arg8 harg8 arg9 harg9 T0 T1 x0 x1 x2 x3 x4 f0 f1 f2 hc0 hc1 hc2 hc4).2.2.1 = below x0 x1 x2 x3 x4 (readState c f0 f1 f2) := by
  unfold readState
  rw [readLaterBelow_m, readLaterBelow_l, readLaterBelow_a]
  rfl

end Results

end Cert.Kernel.Attn

end
-- ==== Proof.TablesKernelIdeal.lean ====
/- The two tables of the grid's second axis, the block of query rows and the block of key rows of each of its 136
   steps, and what they decide at a grid point: the windows' blocks, the branches the body takes, the steps at which
   the result's block is written back. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Frame
public import Idealize.ShloMosaic.Lib.Pipeline.Value
public import Idealize.ShloMosaic.PureOps.BitExact
public import Idealize.ShloMosaic.PureOps.Ideal

@[expose] public section

set_option maxRecDepth 16384
set_option Elab.async false

noncomputable section

namespace Cert.KernelIdeal.Attn

open Cert.KernelIdeal Cert.KernelIdeal.Gen
open Idealize.ShloMosaic Idealize.ShloMosaic.TcCoe
open Idealize.ShloMosaic.Pipeline (Dat Cfg Window)

/-- Four bits per step: the block of query rows. -/
abbrev rowDigits : ℕ := 0xffffffffffffffffeeeeeeeeeeeeeeeddddddddddddddcccccccccccccbbbbbbbbbbbbaaaaaaaaaaa9999999999888888888777777776666666555555444443333222110
/-- Four bits per step: the block of key rows. -/
abbrev colDigits : ℕ := 0xfedcba9876543210edcba9876543210dcba9876543210cba9876543210ba9876543210a98765432109876543210876543210765432106543210543210432103210210100
/-- The block of query rows of step `p`. -/
abbrev rowOf (p : ℕ) : ℕ := rowDigits >>> (4 * p) % 16
/-- The block of key rows of step `p`. -/
abbrev colOf (p : ℕ) : ℕ := colDigits >>> (4 * p) % 16

/-- The program's first table holds the blocks of query rows. -/
theorem lit0_eq : ∀ k : Fin 136, lit0 k = BitVec.ofNat 32 (rowOf k.val) := by decide +kernel
/-- The program's second table holds the blocks of key rows. -/
theorem lit1_eq : ∀ k : Fin 136, lit1 k = BitVec.ofNat 32 (colOf k.val) := by decide +kernel

/-- The first table as the region holds it. -/
def tabQ : S136.Idx → BitVec 32 := fun x => BitVec.ofNat 32 (rowOf (x 0).val)
/-- The second table as the region holds it. -/
def tabK : S136.Idx → BitVec 32 := fun x => BitVec.ofNat 32 (colOf (x 0).val)

/-- The index of a vector's entry. -/
def entry (k : Fin 136) : S136.Idx := fun a => match a with | ⟨0, _⟩ => k
theorem entry_eta (x : S136.Idx) : entry (x 0) = x := by funext a; match a with | ⟨0, _⟩ => rfl
/-- The position of an index of a vector is the index. -/
theorem rowMajor_136 : ∀ k : Fin 136, (S136.rowMajor (entry k)).val = k.val := by decide +kernel

theorem tabQ_eq : (fun x : S136.Idx => lit0 (S136.rowMajor x)) = tabQ := by
  funext x
  have h : S136.rowMajor x = (x 0 : Fin 136) := by
    have h := rowMajor_136 (x 0)
    rw [entry_eta] at h
    exact Fin.ext h
  show lit0 (S136.rowMajor x) = _
  rw [h]; exact lit0_eq _

theorem tabK_eq : (fun x : S136.Idx => lit1 (S136.rowMajor x)) = tabK := by
  funext x
  have h : S136.rowMajor x = (x 0 : Fin 136) := by
    have h := rowMajor_136 (x 0)
    rw [entry_eta] at h
    exact Fin.ext h
  show lit1 (S136.rowMajor x) = _
  rw [h]; exact lit1_eq _

/-- What the prefetched tables hold. -/
def tabs : pre0.Contents (Elt Ideal) := fun | ⟨0, _⟩ => tabQ | ⟨1, _⟩ => tabK | ⟨_ + 2, h⟩ => absurd h (by simp)

/-- Where each window's block lies at a grid point. -/
theorem at_0 : ∀ i : grid0.Coords, cc0_transform_0 k0_off1_inb numel1_S1 tabs i = ![rowOf (i 1).val, 24 + (i 0).val] := by decide +kernel
theorem at_1 : ∀ i : grid0.Coords, cc0_transform_1 k0_off1_inb numel1_S1 tabs i = ![colOf (i 1).val, 28 + (i 0).val] := by decide +kernel
theorem at_2 : ∀ i : grid0.Coords, cc0_transform_2 k0_off1_inb numel1_S1 tabs i = ![colOf (i 1).val, 32 + (i 0).val] := by decide +kernel
theorem at_3 : ∀ i : grid0.Coords, cc0_transform_3 k0_off1_inb numel1_S1 tabs i = ![(i 0).val, 0, rowOf (i 1).val] := by decide +kernel
theorem at_4 : ∀ i : grid0.Coords, cc0_transform_4 k0_off1_inb numel1_S1 tabs i = ![(i 0).val, 0, colOf (i 1).val] := by decide +kernel
theorem at_5 : ∀ i : grid0.Coords, cc0_transform_5 k0_off1_inb numel1_S1 tabs i = ![rowOf (i 1).val, (i 0).val] := by decide +kernel

theorem row_lt (p : ℕ) : rowOf p < 16 := Nat.mod_lt _ (by decide)
theorem col_lt (p : ℕ) : colOf p < 16 := Nat.mod_lt _ (by decide)
/-- The key rows never lie past the query rows. -/
theorem col_le_row : ∀ p : Fin 136, colOf p.val ≤ rowOf p.val := by decide +kernel

/-- Every block lies inside its array. -/
theorem tabs_ok : ok0 (F := Ideal) tabs := by
  refine ⟨fun i => ⟨?_, .inl rfl⟩, fun i => ⟨?_, .inl rfl⟩, fun i => ⟨?_, .inl rfl⟩, fun i => ⟨?_, .inl rfl⟩, fun i => ⟨?_, .inl rfl⟩,
    fun i => ⟨?_, .inr (Affine.block_words_dvd (s := S8192x512) (p := EltTy.packing .bf16) (by decide) (by decide))⟩⟩
  all_goals
    have hr := row_lt (i 1).val
    have hc := col_lt (i 1).val
    have hh : (i 0).val < 4 := (i 0).isLt
    intro a
  · rw [at_0]; fin_cases a
    · show (rowOf (i 1).val + 1) * 512 ≤ 8192; omega
    · show (24 + (i 0).val + 1) * 128 ≤ 4608; omega
  · rw [at_1]; fin_cases a
    · show (colOf (i 1).val + 1) * 512 ≤ 8192; omega
    · show (28 + (i 0).val + 1) * 128 ≤ 4608; omega
  · rw [at_2]; fin_cases a
    · show (colOf (i 1).val + 1) * 512 ≤ 8192; omega
    · show (32 + (i 0).val + 1) * 128 ≤ 4608; omega
  · rw [at_3]; fin_cases a
    · show ((i 0).val + 1) * 1 ≤ 4; omega
    · show (0 + 1) * 1 ≤ 1; omega
    · show (rowOf (i 1).val + 1) * 512 ≤ 8192; omega
  · rw [at_4]; fin_cases a
    · show ((i 0).val + 1) * 1 ≤ 4; omega
    · show (0 + 1) * 1 ≤ 1; omega
    · show (colOf (i 1).val + 1) * 512 ≤ 8192; omega
  · rw [at_5]; fin_cases a
    · show (rowOf (i 1).val + 1) * 512 ≤ 8192; omega
    · show ((i 0).val + 1) * 128 ≤ 512; omega

/-- The tables' contents as the region takes them, and the pipeline at them. -/
def adm : (pcfg0 (F := Ideal)).Adm := ⟨tabs, tabs_ok⟩
abbrev cfgA : Cfg sig Λ₀ := cfg0 (F := Ideal) adm
abbrev crd (t : Fin cfgA.N) : grid0.Coords := cfgA.grid.coords t

/-- The words the body reads of the tables at a grid point. -/
abbrev wordQ (i : grid0.Coords) (T : S136.Idx → Elt Ideal .i32) : BitVec 32 :=
  View.readAt (Elt Ideal) (Memref.whole main_c : Memref sig .tc .smem S136 .i32).view (Rect.unit (s := S136) (k0_off1 i) S1.size (k0_off1_inb i)).toLoadRect T (Shape.Idx.first (numel1_S1.symm ▸ Nat.one_pos))
abbrev wordK (i : grid0.Coords) (T : S136.Idx → Elt Ideal .i32) : BitVec 32 :=
  View.readAt (Elt Ideal) (Memref.whole main_c_0 : Memref sig .tc .smem S136 .i32).view (Rect.unit (s := S136) (k0_off1 i) S1.size (k0_off1_inb i)).toLoadRect T (Shape.Idx.first (numel1_S1.symm ▸ Nat.one_pos))

theorem wordQ_eq : ∀ i : grid0.Coords, wordQ i tabQ = BitVec.ofNat 32 (rowOf (i 1).val) := by decide +kernel
theorem wordK_eq : ∀ i : grid0.Coords, wordK i tabK = BitVec.ofNat 32 (colOf (i 1).val) := by decide +kernel

/-- A point's head and step. -/
theorem crd_head : ∀ t : Fin cfgA.N, (crd t 0).val = t.val / 136 := by decide +kernel
theorem crd_step : ∀ t : Fin cfgA.N, (crd t 1).val = t.val % 136 := by decide +kernel

/-- The result's window is not written to where the step is off the diagonal. -/
theorem idle_eq : ∀ t : Fin cfgA.N, cfgA.idle (5 : Fin 6) (crd t) = decide (colOf (t.val % 136) ≠ rowOf (t.val % 136)) := by decide +kernel
/-- The result's block is written back exactly on the diagonal. -/
theorem flush_eq : ∀ t : Fin cfgA.N, (cfgA.win (5 : Fin 6)).flush t = decide (colOf (t.val % 136) = rowOf (t.val % 136)) := by decide +kernel

/-- Off the diagonal the next step is at the same query rows, one block of keys on; after the diagonal come new query rows. -/
theorem next_eq : ∀ p : Fin 135, colOf (p.val + 1) ≠ 0 → rowOf (p.val + 1) = rowOf p.val ∧ colOf (p.val + 1) = colOf p.val + 1 := by decide +kernel
theorem col_zero : colOf 0 = 0 := by decide +kernel

end Cert.KernelIdeal.Attn

end
-- ==== Proof.BodyKernelIdeal.lean ====
/- The body of the kernel at a grid point, run from its windows' blocks and its three scratch buffers, on each of the
   four ways the table's words may steer it. -/
module

public import proofs.«01_k».proof.Proof.TablesKernelIdeal
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The tables and the scratch buffers as the body is handed them. -/
abbrev tQ : Memref sig .tc .smem S136 .i32 := Memref.whole main_c
abbrev tK : Memref sig .tc .smem S136 .i32 := Memref.whole main_c_0
abbrev sM : Memref sig .tc .vmem S512x1 .f32 := Memref.whole cc0_scratch0
abbrev sL : Memref sig .tc .vmem S512x1 .f32 := Memref.whole cc0_scratch1
abbrev sA : Memref sig .tc .vmem S512x128 .f32 := Memref.whole cc0_scratch2

/-- The quotient of the first row of a block of query rows by the width of a block of keys, as the body divides. -/
abbrev quot (q : BitVec 32) : BitVec 32 :=
  Scalar.select (Scalar.andi (Scalar.cmpi .ne (Scalar.subi (Scalar.extui (Scalar.cmpi .sgt (Scalar.muli q 512#32) 0#32)) (Scalar.extui (Scalar.cmpi .slt (Scalar.muli q 512#32) 0#32))) (Scalar.subi (Scalar.extui (Scalar.cmpi .sgt 512#32 0#32)) (Scalar.extui (Scalar.cmpi .slt 512#32 0#32)))) (Scalar.cmpi .ne (Scalar.remsi (Scalar.muli q 512#32) 512#32) 0#32)) (Scalar.subi (Scalar.divsi (Scalar.muli q 512#32) 512#32) 1#32) (Scalar.divsi (Scalar.muli q 512#32) 512#32)
/-- The body's decisions: the first block of keys, a block wholly below the diagonal, a block that meets it. -/
abbrev isFirst (k : BitVec 32) : BitVec 1 := Scalar.cmpi .ne (Scalar.extui (Scalar.cmpi .eq k 0#32)) 0#32
abbrev isBelow (q k : BitVec 32) : BitVec 1 := Scalar.cmpi .ne (Scalar.extui (Scalar.cmpi .slt k (quot q))) 0#32
abbrev isDiag (q k : BitVec 32) : BitVec 1 := Scalar.cmpi .ne (Scalar.extui (Scalar.cmpi .sge k (quot q))) 0#32

/-- The decisions at two block numbers. -/
theorem isFirst_iff : ∀ k : Fin 16, isFirst (BitVec.ofNat 32 k.val) = 1#1 ↔ k.val = 0 := by decide +kernel
theorem isBelow_iff : ∀ q k : Fin 16, isBelow (BitVec.ofNat 32 q.val) (BitVec.ofNat 32 k.val) = 1#1 ↔ k.val < q.val := by decide +kernel
theorem isDiag_iff : ∀ q k : Fin 16, isDiag (BitVec.ofNat 32 q.val) (BitVec.ofNat 32 k.val) = 1#1 ↔ q.val ≤ k.val := by decide +kernel
theorem isLast_iff : ∀ q k : Fin 16, k.val ≤ q.val → (k0_cond4 (BitVec.ofNat 32 q.val) (BitVec.ofNat 32 k.val) = 1#1 ↔ k.val = q.val) := by decide +kernel

/-- The decisions at a grid point. -/
theorem first_iff (t : Fin cfgA.N) : isFirst (wordK (crd t) tabK) = 1#1 ↔ colOf (t.val % 136) = 0 := by
  rw [wordK_eq, crd_step]; exact isFirst_iff ⟨_, col_lt _⟩
theorem below_iff (t : Fin cfgA.N) : isBelow (wordQ (crd t) tabQ) (wordK (crd t) tabK) = 1#1 ↔ colOf (t.val % 136) < rowOf (t.val % 136) := by
  rw [wordK_eq, wordQ_eq, crd_step]; exact isBelow_iff ⟨_, row_lt _⟩ ⟨_, col_lt _⟩
theorem diag_iff (t : Fin cfgA.N) : isDiag (wordQ (crd t) tabQ) (wordK (crd t) tabK) = 1#1 ↔ rowOf (t.val % 136) ≤ colOf (t.val % 136) := by
  rw [wordK_eq, wordQ_eq, crd_step]; exact isDiag_iff ⟨_, row_lt _⟩ ⟨_, col_lt _⟩
theorem last_iff (t : Fin cfgA.N) : k0_cond4 (wordQ (crd t) tabQ) (wordK (crd t) tabK) = 1#1 ↔ colOf (t.val % 136) = rowOf (t.val % 136) := by
  rw [wordK_eq, wordQ_eq, crd_step]
  exact isLast_iff ⟨_, row_lt _⟩ ⟨_, col_lt _⟩ (col_le_row ⟨t.val % 136, Nat.mod_lt _ (by decide)⟩)

set_option backward.proofsInPublic true in
set_option maxHeartbeats 8000000 in
/-- The body at the first block of keys, which meets the diagonal: the scratch buffers are set, one masked step is taken and the result is stored; what it leaves, with the run that leaves it. -/
noncomputable def runFirstDiag (c : Dev nD) (i : grid0.Coords) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S512x128 .bf16) (harg9 : arg9.IsWhole) (T0 T1 : S136.Idx → Elt Ideal .i32)
    (x0 x1 x2 : S512x128.Idx → Elt Ideal .f32) (x3 x4 : S1x1x512.Idx → Elt Ideal .f32) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))
    (hc0 : isFirst (wordK i T1) = 1#1) (hc1 : ¬(isBelow (wordQ i T0) (wordK i T1) = 1#1)) (hc2 : isDiag (wordQ i T0) (wordK i T1) = 1#1) (hc4 : k0_cond4 (wordQ i T0) (wordK i T1) = 1#1) :
    Σ' (out0 : List (View.Piece (Elt Ideal) S512x128 .bf16)) (m1 : Buf (Elt Ideal) ((c : Thread nD τ).loc cc0_scratch0)) (l1 : Buf (Elt Ideal) ((c : Thread nD τ).loc cc0_scratch1)), { a1 : Buf (Elt Ideal) ((c : Thread nD τ).loc cc0_scratch2) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tQ.view.loc (c : Thread nD τ) ↦{fullShare.right} T0)
          ∗ (tK.view.loc (c : Thread nD τ) ↦{fullShare.right} T1)
          ∗ (∃ d, owns (c : Thread nD τ) arg9 fullShare d)
          ∗ (sM.view.loc (c : Thread nD τ) ↦{fullShare} xa0)
          ∗ (sL.view.loc (c : Thread nD τ) ↦{fullShare} xa1)
          ∗ (sA.view.loc (c : Thread nD τ) ↦{fullShare} xa2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tQ.view.loc (c : Thread nD τ) ↦{fullShare.right} T0)
          ∗ (tK.view.loc (c : Thread nD τ) ↦{fullShare.right} T1)
          ∗ (∃ f, arg9.view.loc (c : Thread nD τ) ↦[arg9.view.set]{fullShare} arg9.view.writes (Elt Ideal) f out0)
              ∗ (sM.view.loc (c : Thread nD τ) ↦{fullShare} m1)
              ∗ (sL.view.loc (c : Thread nD τ) ↦{fullShare} l1)
              ∗ (sA.view.loc (c : Thread nD τ) ↦{fullShare} a1)) -∗ K ⟨⟩))
          ⊢ wp frame (wpE (defs₀ (F := Ideal)) Variants.none c none) Set.univ (cc0_fox_attention i tQ (Memref.isWhole_whole _) tK (Memref.isWhole_whole _) arg4 harg4 arg5 harg5 arg6 harg6 arg7 harg7 arg8 harg8 arg9 harg9 sM (Memref.isWhole_whole _) sL (Memref.isWhole_whole _) sA (Memref.isWhole_whole _)) K } :=
  ⟨_, _, _, _, fun K => by
    rw [cc0_fox_attention_eq_skeleton]; unfold cc0_fox_attention_skel
    unfold owns
    iintro ⟨H0, H1, H2, H3, H4, HT0, HT1, ⟨%d5, %f5, -, HO5⟩, HS0, HS1, HS2, Hk⟩
    skip
    have hS0 : sM.IsWhole := Memref.isWhole_whole _
    have hS1 : sL.IsWhole := Memref.isWhole_whole _
    have hS2 : sA.IsWhole := Memref.isWhole_whole _
    have hT0 : tQ.IsWhole := Memref.isWhole_whole _
    have hT1 : tK.IsWhole := Memref.isWhole_whole _
    sl_exec! (disch := first | (guard_target = Scalar.cmpi _ _ _ = _; exact hc0) | (guard_target = ¬(Scalar.cmpi _ _ _ = _); exact hc1) | (guard_target = Scalar.cmpi _ _ _ = _; exact hc2) | (guard_target = k0_cond4 _ _ = _; exact hc4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    iexact HS2⟩

set_option backward.proofsInPublic true in
set_option maxHeartbeats 8000000 in
/-- The body at the first block of keys, below the diagonal: the scratch buffers are set and one step is taken; what it leaves, with the run that leaves it. -/
noncomputable def runFirstBelow (c : Dev nD) (i : grid0.Coords) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S512x128 .bf16) (harg9 : arg9.IsWhole) (T0 T1 : S136.Idx → Elt Ideal .i32)
    (x0 x1 x2 : S512x128.Idx → Elt Ideal .f32) (x3 x4 : S1x1x512.Idx → Elt Ideal .f32) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))
    (hc0 : isFirst (wordK i T1) = 1#1) (hc1 : isBelow (wordQ i T0) (wordK i T1) = 1#1) (hc2 : ¬(isDiag (wordQ i T0) (wordK i T1) = 1#1)) (hc4 : ¬(k0_cond4 (wordQ i T0) (wordK i T1) = 1#1)) :
    Σ' (m1 : Buf (Elt Ideal) ((c : Thread nD τ).loc cc0_scratch0)) (l1 : Buf (Elt Ideal) ((c : Thread nD τ).loc cc0_scratch1)), { a1 : Buf (Elt Ideal) ((c : Thread nD τ).loc cc0_scratch2) //
      ∀ (y5 : S512x128.Idx → Elt Ideal .bf16) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tQ.view.loc (c : Thread nD τ) ↦{fullShare.right} T0)
          ∗ (tK.view.loc (c : Thread nD τ) ↦{fullShare.right} T1)
          ∗ owns (c : Thread nD τ) arg9 fullShare y5
          ∗ (sM.view.loc (c : Thread nD τ) ↦{fullShare} xa0)
          ∗ (sL.view.loc (c : Thread nD τ) ↦{fullShare} xa1)
          ∗ (sA.view.loc (c : Thread nD τ) ↦{fullShare} xa2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tQ.view.loc (c : Thread nD τ) ↦{fullShare.right} T0)
          ∗ (tK.view.loc (c : Thread nD τ) ↦{fullShare.right} T1)
          ∗ owns (c : Thread nD τ) arg9 fullShare y5
              ∗ (sM.view.loc (c : Thread nD τ) ↦{fullShare} m1)
              ∗ (sL.view.loc (c : Thread nD τ) ↦{fullShare} l1)
              ∗ (sA.view.loc (c : Thread nD τ) ↦{fullShare} a1)) -∗ K ⟨⟩))
          ⊢ wp frame (wpE (defs₀ (F := Ideal)) Variants.none c none) Set.univ (cc0_fox_attention i tQ (Memref.isWhole_whole _) tK (Memref.isWhole_whole _) arg4 harg4 arg5 harg5 arg6 harg6 arg7 harg7 arg8 harg8 arg9 harg9 sM (Memref.isWhole_whole _) sL (Memref.isWhole_whole _) sA (Memref.isWhole_whole _)) K } :=
  ⟨_, _, _, fun y5 K => by
    rw [cc0_fox_attention_eq_skeleton]; unfold cc0_fox_attention_skel
    unfold owns
    iintro ⟨H0, H1, H2, H3, H4, HT0, HT1, ⟨%f5, %hf5, HO5⟩, HS0, HS1, HS2, Hk⟩
    obtain rfl := harg9.eq_unread hf5
    have hS0 : sM.IsWhole := Memref.isWhole_whole _
    have hS1 : sL.IsWhole := Memref.isWhole_whole _
    have hS2 : sA.IsWhole := Memref.isWhole_whole _
    have hT0 : tQ.IsWhole := Memref.isWhole_whole _
    have hT1 : tK.IsWhole := Memref.isWhole_whole _
    sl_exec! (disch := first | (guard_target = Scalar.cmpi _ _ _ = _; exact hc0) | (guard_target = Scalar.cmpi _ _ _ = _; exact hc1) | (guard_target = ¬(Scalar.cmpi _ _ _ = _); exact hc2) | (guard_target = ¬(k0_cond4 _ _ = _); exact hc4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; isplitr; (ipureintro; exact harg9.read_unread _); iexact HO5
    isplitl [HS0]; · iexact HS0
    isplitl [HS1]; · iexact HS1
    iexact HS2⟩

set_option backward.proofsInPublic true in
set_option maxHeartbeats 8000000 in
/-- The body at a later block of keys, which meets the diagonal: one masked step is taken and the result is stored; what it leaves, with the run that leaves it. -/
noncomputable def runLaterDiag (c : Dev nD) (i : grid0.Coords) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S512x128 .bf16) (harg9 : arg9.IsWhole) (T0 T1 : S136.Idx → Elt Ideal .i32)
    (x0 x1 x2 : S512x128.Idx → Elt Ideal .f32) (x3 x4 : S1x1x512.Idx → Elt Ideal .f32) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))
    (hc0 : ¬(isFirst (wordK i T1) = 1#1)) (hc1 : ¬(isBelow (wordQ i T0) (wordK i T1) = 1#1)) (hc2 : isDiag (wordQ i T0) (wordK i T1) = 1#1) (hc4 : k0_cond4 (wordQ i T0) (wordK i T1) = 1#1) :
    Σ' (out0 : List (View.Piece (Elt Ideal) S512x128 .bf16)) (m1 : Buf (Elt Ideal) ((c : Thread nD τ).loc cc0_scratch0)) (l1 : Buf (Elt Ideal) ((c : Thread nD τ).loc cc0_scratch1)), { a1 : Buf (Elt Ideal) ((c : Thread nD τ).loc cc0_scratch2) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tQ.view.loc (c : Thread nD τ) ↦{fullShare.right} T0)
          ∗ (tK.view.loc (c : Thread nD τ) ↦{fullShare.right} T1)
          ∗ (∃ d, owns (c : Thread nD τ) arg9 fullShare d)
          ∗ (sM.view.loc (c : Thread nD τ) ↦{fullShare} xa0)
          ∗ (sL.view.loc (c : Thread nD τ) ↦{fullShare} xa1)
          ∗ (sA.view.loc (c : Thread nD τ) ↦{fullShare} xa2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tQ.view.loc (c : Thread nD τ) ↦{fullShare.right} T0)
          ∗ (tK.view.loc (c : Thread nD τ) ↦{fullShare.right} T1)
          ∗ (∃ f, arg9.view.loc (c : Thread nD τ) ↦[arg9.view.set]{fullShare} arg9.view.writes (Elt Ideal) f out0)
              ∗ (sM.view.loc (c : Thread nD τ) ↦{fullShare} m1)
              ∗ (sL.view.loc (c : Thread nD τ) ↦{fullShare} l1)
              ∗ (sA.view.loc (c : Thread nD τ) ↦{fullShare} a1)) -∗ K ⟨⟩))
          ⊢ wp frame (wpE (defs₀ (F := Ideal)) Variants.none c none) Set.univ (cc0_fox_attention i tQ (Memref.isWhole_whole _) tK (Memref.isWhole_whole _) arg4 harg4 arg5 harg5 arg6 harg6 arg7 harg7 arg8 harg8 arg9 harg9 sM (Memref.isWhole_whole _) sL (Memref.isWhole_whole _) sA (Memref.isWhole_whole _)) K } :=
  ⟨_, _, _, _, fun K => by
    rw [cc0_fox_attention_eq_skeleton]; unfold cc0_fox_attention_skel
    unfold owns
    iintro ⟨H0, H1, H2, H3, H4, HT0, HT1, ⟨%d5, %f5, -, HO5⟩, HS0, HS1, HS2, Hk⟩
    skip
    have hS0 : sM.IsWhole := Memref.isWhole_whole _
    have hS1 : sL.IsWhole := Memref.isWhole_whole _
    have hS2 : sA.IsWhole := Memref.isWhole_whole _
    have hT0 : tQ.IsWhole := Memref.isWhole_whole _
    have hT1 : tK.IsWhole := Memref.isWhole_whole _
    sl_exec! (disch := first | (guard_target = ¬(Scalar.cmpi _ _ _ = _); exact hc0) | (guard_target = ¬(Scalar.cmpi _ _ _ = _); exact hc1) | (guard_target = Scalar.cmpi _ _ _ = _; exact hc2) | (guard_target = k0_cond4 _ _ = _; exact hc4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    iexact HS2⟩

set_option backward.proofsInPublic true in
set_option maxHeartbeats 8000000 in
/-- The body at a later block of keys, below the diagonal: one step is taken; what it leaves, with the run that leaves it. -/
noncomputable def runLaterBelow (c : Dev nD) (i : grid0.Coords) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S512x128 .bf16) (harg9 : arg9.IsWhole) (T0 T1 : S136.Idx → Elt Ideal .i32)
    (x0 x1 x2 : S512x128.Idx → Elt Ideal .f32) (x3 x4 : S1x1x512.Idx → Elt Ideal .f32) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))
    (hc0 : ¬(isFirst (wordK i T1) = 1#1)) (hc1 : isBelow (wordQ i T0) (wordK i T1) = 1#1) (hc2 : ¬(isDiag (wordQ i T0) (wordK i T1) = 1#1)) (hc4 : ¬(k0_cond4 (wordQ i T0) (wordK i T1) = 1#1)) :
    Σ' (m1 : Buf (Elt Ideal) ((c : Thread nD τ).loc cc0_scratch0)) (l1 : Buf (Elt Ideal) ((c : Thread nD τ).loc cc0_scratch1)), { a1 : Buf (Elt Ideal) ((c : Thread nD τ).loc cc0_scratch2) //
      ∀ (y5 : S512x128.Idx → Elt Ideal .bf16) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tQ.view.loc (c : Thread nD τ) ↦{fullShare.right} T0)
          ∗ (tK.view.loc (c : Thread nD τ) ↦{fullShare.right} T1)
          ∗ owns (c : Thread nD τ) arg9 fullShare y5
          ∗ (sM.view.loc (c : Thread nD τ) ↦{fullShare} xa0)
          ∗ (sL.view.loc (c : Thread nD τ) ↦{fullShare} xa1)
          ∗ (sA.view.loc (c : Thread nD τ) ↦{fullShare} xa2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tQ.view.loc (c : Thread nD τ) ↦{fullShare.right} T0)
          ∗ (tK.view.loc (c : Thread nD τ) ↦{fullShare.right} T1)
          ∗ owns (c : Thread nD τ) arg9 fullShare y5
              ∗ (sM.view.loc (c : Thread nD τ) ↦{fullShare} m1)
              ∗ (sL.view.loc (c : Thread nD τ) ↦{fullShare} l1)
              ∗ (sA.view.loc (c : Thread nD τ) ↦{fullShare} a1)) -∗ K ⟨⟩))
          ⊢ wp frame (wpE (defs₀ (F := Ideal)) Variants.none c none) Set.univ (cc0_fox_attention i tQ (Memref.isWhole_whole _) tK (Memref.isWhole_whole _) arg4 harg4 arg5 harg5 arg6 harg6 arg7 harg7 arg8 harg8 arg9 harg9 sM (Memref.isWhole_whole _) sL (Memref.isWhole_whole _) sA (Memref.isWhole_whole _)) K } :=
  ⟨_, _, _, fun y5 K => by
    rw [cc0_fox_attention_eq_skeleton]; unfold cc0_fox_attention_skel
    unfold owns
    iintro ⟨H0, H1, H2, H3, H4, HT0, HT1, ⟨%f5, %hf5, HO5⟩, HS0, HS1, HS2, Hk⟩
    obtain rfl := harg9.eq_unread hf5
    have hS0 : sM.IsWhole := Memref.isWhole_whole _
    have hS1 : sL.IsWhole := Memref.isWhole_whole _
    have hS2 : sA.IsWhole := Memref.isWhole_whole _
    have hT0 : tQ.IsWhole := Memref.isWhole_whole _
    have hT1 : tK.IsWhole := Memref.isWhole_whole _
    sl_exec! (disch := first | (guard_target = ¬(Scalar.cmpi _ _ _ = _); exact hc0) | (guard_target = Scalar.cmpi _ _ _ = _; exact hc1) | (guard_target = ¬(Scalar.cmpi _ _ _ = _); exact hc2) | (guard_target = ¬(k0_cond4 _ _ = _); exact hc4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; isplitr; (ipureintro; exact harg9.read_unread _); iexact HO5
    isplitl [HS0]; · iexact HS0
    isplitl [HS1]; · iexact HS1
    iexact HS2⟩

end Cert.KernelIdeal.Attn

end
-- ==== Proof.StepKernelIdeal.lean ====
/- One step of the kernel at a grid point: what it makes of the scratch buffers' contents, on each of the four ways the
   tables may steer it. -/
module

public import proofs.«01_k».proof.Proof.BodyKernelIdeal
public import Idealize.ShloMosaic.Lib.VecWindow
public import Idealize.ShloMosaic.Lib.Pipeline.Value
public import Idealize.ShloMosaic.Lib.Pipeline.Frame

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- What the three scratch buffers hold: the largest scores, the sums of the weights, the weighted sums. -/
@[ext] structure State where
  m : S512x1.Idx → Elt Ideal .f32
  l : S512x1.Idx → Elt Ideal .f32
  a : S512x128.Idx → Elt Ideal .f32

/-- What the scratch buffers are set to at the first block of keys. -/
def start : State := ⟨k0_pay20 (F := Ideal), k0_pay21 (F := Ideal), k0_pay22 (F := Ideal)⟩

/-- A step at a block of keys below the diagonal. -/
def below (x0 x1 x2 : S512x128.Idx → Elt Ideal .f32) (x3 x4 : S1x1x512.Idx → Elt Ideal .f32) (S : State) : State :=
  ⟨k0_pay2 (k0_pay8 x0 x1 x3 x4 S.m), k0_pay11 x0 x1 x3 x4 S.m S.l, k0_pay1 (k0_pay12 x0 x1 x3 x4 S.m S.a) (k0_pay13 x0 x1 x3 x4 S.m) x2⟩

/-- A step at the block of keys on the diagonal. -/
def diag (q k : BitVec 32) (x0 x1 x2 : S512x128.Idx → Elt Ideal .f32) (x3 x4 : S1x1x512.Idx → Elt Ideal .f32) (S : State) : State :=
  ⟨k0_pay5 (k0_pay15 q k x0 x1 x3 x4 S.m), k0_pay3 (k0_pay18 q k x0 x1 x3 x4 S.m S.l) (k0_pay19 q k x0 x1 x3 x4 S.m),
    k0_pay4 (k0_pay16 q k x0 x1 x3 x4 S.m) (k0_pay17 q k x0 x1 x3 x4 S.m) S.a x2⟩

/-- What is stored to the result's block. -/
def out (S : State) : S512x128.Idx → Elt Ideal .bf16 := k0_pay6 S.a S.l

/-- What the scratch buffers read as. -/
def readState (c : Dev nD) (f0 : Buf (Elt Ideal) ((c : Thread nD τ).loc cc0_scratch0)) (f1 : Buf (Elt Ideal) ((c : Thread nD τ).loc cc0_scratch1)) (f2 : Buf (Elt Ideal) ((c : Thread nD τ).loc cc0_scratch2)) : State :=
  ⟨sM.view.read (Elt Ideal) f0, sL.view.read (Elt Ideal) f1, sA.view.read (Elt Ideal) f2⟩

/-- Offsets all zero. -/
theorem off2 : (![0, 0] : Fin 2 → ℕ) = fun _ => 0 := by funext a; fin_cases a <;> rfl

/-- A store over a whole buffer, last, is what the buffer reads as. -/
theorem read_full {κ : Kind} {sp : Space} {s : Shape} {e : EltTy} (v : View sig κ sp s e) (f : v.ty.Contents (Elt Ideal)) {off : Fin s.rank → ℕ} (h : off = fun _ => 0)
    (inb : ∀ a, off a + s.size a ≤ s.size a) (w : s.Idx → Elt Ideal e) (L : List (View.Piece (Elt Ideal) s e)) :
    v.read (Elt Ideal) (v.writes (Elt Ideal) f (⟨Rect.unit off s.size inb, w⟩ :: L)) = w :=
  (View.read_writes_eq_canon v f _ fun y => ⟨_, List.mem_cons_self .., View.mem_set_unit_zero h inb y⟩).trans (View.canon_cons_unit_zero h inb w L)

/-- A load over a whole buffer of what such a store left. -/
theorem readCov_full {κ : Kind} {sp : Space} {s : Shape} {e : EltTy} (v : View sig κ sp s e) {off off' : Fin s.rank → ℕ} (h : off = fun _ => 0)
    (inb : ∀ a, off a + s.size a ≤ s.size a) (inb' : ∀ a, off' a + s.size a ≤ s.size a) (w : s.Idx → Elt Ideal e) (L : List (View.Piece (Elt Ideal) s e)) :
    v.readCov (⟨Rect.unit off s.size inb, w⟩ :: L) (Rect.unit off' s.size inb').toLoadRect = w :=
  (View.readAt_full v _ inb').trans (read_full v _ h inb w L)

section Results

variable (c : Dev nD) (i : grid0.Coords) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S512x128 .bf16) (harg9 : arg9.IsWhole) (T0 T1 : S136.Idx → Elt Ideal .i32)
    (x0 x1 x2 : S512x128.Idx → Elt Ideal .f32) (x3 x4 : S1x1x512.Idx → Elt Ideal .f32) (f0 : Buf (Elt Ideal) ((c : Thread nD τ).loc cc0_scratch0)) (f1 : Buf (Elt Ideal) ((c : Thread nD τ).loc cc0_scratch1)) (f2 : Buf (Elt Ideal) ((c : Thread nD τ).loc cc0_scratch2))

/-- A load of a window's block reads the block. -/
theorem ld2 (a : Memref sig .tc .vmem S512x128 .f32) (x : S512x128.Idx → Elt Ideal .f32) :
    View.readAt (Elt Ideal) a.view (Rect.unit ![0, 0] S512x128.size inb_S512x128_S512x128_0_0).toLoadRect (a.view.rep x) = x := View.readAt_rep_full a.view x _
theorem ld3 (a : Memref sig .tc .vmem S1x1x512 .f32) (x : S1x1x512.Idx → Elt Ideal .f32) :
    View.readAt (Elt Ideal) a.view (Rect.unit ![0, 0, 0] S1x1x512.size inb_S1x1x512_S1x1x512_0_0_0).toLoadRect (a.view.rep x) = x := View.readAt_rep_full a.view x _
/-- A load of a scratch buffer reads it. -/
theorem ldM (f : Buf (Elt Ideal) ((c : Thread nD τ).loc cc0_scratch0)) : View.readAt (Elt Ideal) sM.view (Rect.unit ![0, 0] S512x1.size inb_S512x1_S512x1_0_0).toLoadRect f = sM.view.read (Elt Ideal) f := View.readAt_full sM.view f _
theorem ldL (f : Buf (Elt Ideal) ((c : Thread nD τ).loc cc0_scratch1)) : View.readAt (Elt Ideal) sL.view (Rect.unit ![0, 0] S512x1.size inb_S512x1_S512x1_0_0).toLoadRect f = sL.view.read (Elt Ideal) f := View.readAt_full sL.view f _
theorem ldA (f : Buf (Elt Ideal) ((c : Thread nD τ).loc cc0_scratch2)) : View.readAt (Elt Ideal) sA.view (Rect.unit ![0, 0] S512x128.size inb_S512x128_S512x128_0_0).toLoadRect f = sA.view.read (Elt Ideal) f := View.readAt_full sA.view f _
/-- A load of a scratch buffer just set reads what it was set to. -/
theorem ldM0 : sM.view.readCov [(⟨Rect.unit ![0, 0] S512x1.size inb_S512x1_S512x1_0_0, k0_pay20 (F := Ideal)⟩ : View.Piece (Elt Ideal) S512x1 .f32)] (Rect.unit ![0, 0] S512x1.size inb_S512x1_S512x1_0_0).toLoadRect = k0_pay20 (F := Ideal) := readCov_full sM.view off2 _ _ _ _
theorem ldL0 : sL.view.readCov [(⟨Rect.unit ![0, 0] S512x1.size inb_S512x1_S512x1_0_0, k0_pay21 (F := Ideal)⟩ : View.Piece (Elt Ideal) S512x1 .f32)] (Rect.unit ![0, 0] S512x1.size inb_S512x1_S512x1_0_0).toLoadRect = k0_pay21 (F := Ideal) := readCov_full sL.view off2 _ _ _ _
theorem ldA0 : sA.view.readCov [(⟨Rect.unit ![0, 0] S512x128.size inb_S512x128_S512x128_0_0, k0_pay22 (F := Ideal)⟩ : View.Piece (Elt Ideal) S512x128 .f32)] (Rect.unit ![0, 0] S512x128.size inb_S512x128_S512x128_0_0).toLoadRect = k0_pay22 (F := Ideal) := readCov_full sA.view off2 _ _ _ _

theorem readFirstDiag_m (hc0 : isFirst (wordK i T1) = 1#1) (hc1 : ¬(isBelow (wordQ i T0) (wordK i T1) = 1#1)) (hc2 : isDiag (wordQ i T0) (wordK i T1) = 1#1) (hc4 : k0_cond4 (wordQ i T0) (wordK i T1) = 1#1) : sM.view.read (Elt Ideal) (runFirstDiag c i arg4 harg4 arg5 harg5 arg6 harg6 arg7 harg7 arg8 harg8 arg9 harg9 T0 T1 x0 x1 x2 x3 x4 f0 f1 f2 hc0 hc1 hc2 hc4).2.1 = k0_pay5 (k0_pay15 (wordQ i T0) (wordK i T1) x0 x1 x3 x4 (k0_pay20 (F := Ideal))) := by
  refine (read_full sM.view _ off2 inb_S512x1_S512x1_0_0 _ _).trans ?_
  conv => rhs; rw [← ld2 arg4 x0, ← ld2 arg5 x1, ← ld3 arg7 x3, ← ld3 arg8 x4, ← ldM0]
  all_goals rfl
theorem readFirstDiag_l (hc0 : isFirst (wordK i T1) = 1#1) (hc1 : ¬(isBelow (wordQ i T0) (wordK i T1) = 1#1)) (hc2 : isDiag (wordQ i T0) (wordK i T1) = 1#1) (hc4 : k0_cond4 (wordQ i T0) (wordK i T1) = 1#1) : sL.view.read (Elt Ideal) (runFirstDiag c i arg4 harg4 arg5 harg5 arg6 harg6 arg7 harg7 arg8 harg8 arg9 harg9 T0 T1 x0 x1 x2 x3 x4 f0 f1 f2 hc0 hc1 hc2 hc4).2.2.1 = k0_pay3 (k0_pay18 (wordQ i T0) (wordK i T1) x0 x1 x3 x4 (k0_pay20 (F := Ideal)) (k0_pay21 (F := Ideal))) (k0_pay19 (wordQ i T0) (wordK i T1) x0 x1 x3 x4 (k0_pay20 (F := Ideal))) := by
  refine (read_full sL.view _ off2 inb_S512x1_S512x1_0_0 _ _).trans ?_
  conv => rhs; rw [← ld2 arg4 x0, ← ld2 arg5 x1, ← ld3 arg7 x3, ← ld3 arg8 x4, ← ldM0, ← ldL0]
  all_goals rfl
theorem readFirstDiag_a (hc0 : isFirst (wordK i T1) = 1#1) (hc1 : ¬(isBelow (wordQ i T0) (wordK i T1) = 1#1)) (hc2 : isDiag (wordQ i T0) (wordK i T1) = 1#1) (hc4 : k0_cond4 (wordQ i T0) (wordK i T1) = 1#1) : sA.view.read (Elt Ideal) (runFirstDiag c i arg4 harg4 arg5 harg5 arg6 harg6 arg7 harg7 arg8 harg8 arg9 harg9 T0 T1 x0 x1 x2 x3 x4 f0 f1 f2 hc0 hc1 hc2 hc4).2.2.2.1 = k0_pay4 (k0_pay16 (wordQ i T0) (wordK i T1) x0 x1 x3 x4 (k0_pay20 (F := Ideal))) (k0_pay17 (wordQ i T0) (wordK i T1) x0 x1 x3 x4 (k0_pay20 (F := Ideal))) (k0_pay22 (F := Ideal)) x2 := by
  refine (read_full sA.view _ off2 inb_S512x128_S512x128_0_0 _ _).trans ?_
  conv => rhs; rw [← ld2 arg4 x0, ← ld2 arg5 x1, ← ld3 arg7 x3, ← ld3 arg8 x4, ← ld2 arg6 x2, ← ldM0, ← ldA0]
  all_goals rfl
/-- What the scratch buffers read as afterwards. -/
theorem readFirstDiag (hc0 : isFirst (wordK i T1) = 1#1) (hc1 : ¬(isBelow (wordQ i T0) (wordK i T1) = 1#1)) (hc2 : isDiag (wordQ i T0) (wordK i T1) = 1#1) (hc4 : k0_cond4 (wordQ i T0) (wordK i T1) = 1#1) : readState c (runFirstDiag c i arg4 harg4 arg5 harg5 arg6 harg6 arg7 harg7 arg8 harg8 arg9 harg9 T0 T1 x0 x1 x2 x3 x4 f0 f1 f2 hc0 hc1 hc2 hc4).2.1 (runFirstDiag c i arg4 harg4 arg5 harg5 arg6 harg6 arg7 harg7 arg8 harg8 arg9 harg9 T0 T1 x0 x1 x2 x3 x4 f0 f1 f2 hc0 hc1 hc2 hc4).2.2.1 (runFirstDiag c i arg4 harg4 arg5 harg5 arg6 harg6 arg7 harg7 arg8 harg8 arg9 harg9 T0 T1 x0 x1 x2 x3 x4 f0 f1 f2 hc0 hc1 hc2 hc4).2.2.2.1 = diag (wordQ i T0) (wordK i T1) x0 x1 x2 x3 x4 start := by
  unfold readState
  rw [readFirstDiag_m, readFirstDiag_l, readFirstDiag_a]
  rfl
/-- What is stored to the result's block. -/
theorem outFirstDiag (f : arg9.view.ty.Contents (Elt Ideal)) (hc0 : isFirst (wordK i T1) = 1#1) (hc1 : ¬(isBelow (wordQ i T0) (wordK i T1) = 1#1)) (hc2 : isDiag (wordQ i T0) (wordK i T1) = 1#1) (hc4 : k0_cond4 (wordQ i T0) (wordK i T1) = 1#1) : arg9.view.read (Elt Ideal) (arg9.view.writes (Elt Ideal) f (runFirstDiag c i arg4 harg4 arg5 harg5 arg6 harg6 arg7 harg7 arg8 harg8 arg9 harg9 T0 T1 x0 x1 x2 x3 x4 f0 f1 f2 hc0 hc1 hc2 hc4).1) = out (diag (wordQ i T0) (wordK i T1) x0 x1 x2 x3 x4 start) := by
  refine (read_full arg9.view _ off2 inb_S512x128_S512x128_0_0 _ _).trans ?_
  refine congrArg₂ (k0_pay6 (F := Ideal)) (x' := k0_pay4 (k0_pay16 (wordQ i T0) (wordK i T1) x0 x1 x3 x4 (k0_pay20 (F := Ideal))) (k0_pay17 (wordQ i T0) (wordK i T1) x0 x1 x3 x4 (k0_pay20 (F := Ideal))) (k0_pay22 (F := Ideal)) x2) (y' := k0_pay3 (k0_pay18 (wordQ i T0) (wordK i T1) x0 x1 x3 x4 (k0_pay20 (F := Ideal)) (k0_pay21 (F := Ideal))) (k0_pay19 (wordQ i T0) (wordK i T1) x0 x1 x3 x4 (k0_pay20 (F := Ideal)))) ((readCov_full sA.view off2 inb_S512x128_S512x128_0_0 _ _ _).trans ?_) ((readCov_full sL.view off2 inb_S512x1_S512x1_0_0 _ _ _).trans ?_)
  · skip
    conv => rhs; rw [← ld2 arg4 x0, ← ld2 arg5 x1, ← ld3 arg7 x3, ← ld3 arg8 x4, ← ld2 arg6 x2, ← ldM0, ← ldA0]
    rfl
  · conv => rhs; rw [← ld2 arg4 x0, ← ld2 arg5 x1, ← ld3 arg7 x3, ← ld3 arg8 x4, ← ldM0, ← ldL0]
    rfl

theorem readFirstBelow_m (hc0 : isFirst (wordK i T1) = 1#1) (hc1 : isBelow (wordQ i T0) (wordK i T1) = 1#1) (hc2 : ¬(isDiag (wordQ i T0) (wordK i T1) = 1#1)) (hc4 : ¬(k0_cond4 (wordQ i T0) (wordK i T1) = 1#1)) : sM.view.read (Elt Ideal) (runFirstBelow c i arg4 harg4 arg5 harg5 arg6 harg6 arg7 harg7 arg8 harg8 arg9 harg9 T0 T1 x0 x1 x2 x3 x4 f0 f1 f2 hc0 hc1 hc2 hc4).1 = k0_pay2 (k0_pay8 x0 x1 x3 x4 (k0_pay20 (F := Ideal))) := by
  refine (read_full sM.view _ off2 inb_S512x1_S512x1_0_0 _ _).trans ?_
  conv => rhs; rw [← ld2 arg4 x0, ← ld2 arg5 x1, ← ld3 arg7 x3, ← ld3 arg8 x4, ← ldM0]
  all_goals rfl
theorem readFirstBelow_l (hc0 : isFirst (wordK i T1) = 1#1) (hc1 : isBelow (wordQ i T0) (wordK i T1) = 1#1) (hc2 : ¬(isDiag (wordQ i T0) (wordK i T1) = 1#1)) (hc4 : ¬(k0_cond4 (wordQ i T0) (wordK i T1) = 1#1)) : sL.view.read (Elt Ideal) (runFirstBelow c i arg4 harg4 arg5 harg5 arg6 harg6 arg7 harg7 arg8 harg8 arg9 harg9 T0 T1 x0 x1 x2 x3 x4 f0 f1 f2 hc0 hc1 hc2 hc4).2.1 = k0_pay11 x0 x1 x3 x4 (k0_pay20 (F := Ideal)) (k0_pay21 (F := Ideal)) := by
  refine (read_full sL.view _ off2 inb_S512x1_S512x1_0_0 _ _).trans ?_
  conv => rhs; rw [← ld2 arg4 x0, ← ld2 arg5 x1, ← ld3 arg7 x3, ← ld3 arg8 x4, ← ldM0, ← ldL0]
  all_goals rfl
theorem readFirstBelow_a (hc0 : isFirst (wordK i T1) = 1#1) (hc1 : isBelow (wordQ i T0) (wordK i T1) = 1#1) (hc2 : ¬(isDiag (wordQ i T0) (wordK i T1) = 1#1)) (hc4 : ¬(k0_cond4 (wordQ i T0) (wordK i T1) = 1#1)) : sA.view.read (Elt Ideal) (runFirstBelow c i arg4 harg4 arg5 harg5 arg6 harg6 arg7 harg7 arg8 harg8 arg9 harg9 T0 T1 x0 x1 x2 x3 x4 f0 f1 f2 hc0 hc1 hc2 hc4).2.2.1 = k0_pay1 (k0_pay12 x0 x1 x3 x4 (k0_pay20 (F := Ideal)) (k0_pay22 (F := Ideal))) (k0_pay13 x0 x1 x3 x4 (k0_pay20 (F := Ideal))) x2 := by
  refine (read_full sA.view _ off2 inb_S512x128_S512x128_0_0 _ _).trans ?_
  conv => rhs; rw [← ld2 arg4 x0, ← ld2 arg5 x1, ← ld3 arg7 x3, ← ld3 arg8 x4, ← ld2 arg6 x2, ← ldM0, ← ldA0]
  all_goals rfl
/-- What the scratch buffers read as afterwards. -/
theorem readFirstBelow (hc0 : isFirst (wordK i T1) = 1#1) (hc1 : isBelow (wordQ i T0) (wordK i T1) = 1#1) (hc2 : ¬(isDiag (wordQ i T0) (wordK i T1) = 1#1)) (hc4 : ¬(k0_cond4 (wordQ i T0) (wordK i T1) = 1#1)) : readState c (runFirstBelow c i arg4 harg4 arg5 harg5 arg6 harg6 arg7 harg7 arg8 harg8 arg9 harg9 T0 T1 x0 x1 x2 x3 x4 f0 f1 f2 hc0 hc1 hc2 hc4).1 (runFirstBelow c i arg4 harg4 arg5 harg5 arg6 harg6 arg7 harg7 arg8 harg8 arg9 harg9 T0 T1 x0 x1 x2 x3 x4 f0 f1 f2 hc0 hc1 hc2 hc4).2.1 (runFirstBelow c i arg4 harg4 arg5 harg5 arg6 harg6 arg7 harg7 arg8 harg8 arg9 harg9 T0 T1 x0 x1 x2 x3 x4 f0 f1 f2 hc0 hc1 hc2 hc4).2.2.1 = below x0 x1 x2 x3 x4 start := by
  unfold readState
  rw [readFirstBelow_m, readFirstBelow_l, readFirstBelow_a]
  rfl

theorem readLaterDiag_m (hc0 : ¬(isFirst (wordK i T1) = 1#1)) (hc1 : ¬(isBelow (wordQ i T0) (wordK i T1) = 1#1)) (hc2 : isDiag (wordQ i T0) (wordK i T1) = 1#1) (hc4 : k0_cond4 (wordQ i T0) (wordK i T1) = 1#1) : sM.view.read (Elt Ideal) (runLaterDiag c i arg4 harg4 arg5 harg5 arg6 harg6 arg7 harg7 arg8 harg8 arg9 harg9 T0 T1 x0 x1 x2 x3 x4 f0 f1 f2 hc0 hc1 hc2 hc4).2.1 = k0_pay5 (k0_pay15 (wordQ i T0) (wordK i T1) x0 x1 x3 x4 (sM.view.read (Elt Ideal) f0)) := by
  refine (read_full sM.view _ off2 inb_S512x1_S512x1_0_0 _ _).trans ?_
  conv => rhs; rw [← ld2 arg4 x0, ← ld2 arg5 x1, ← ld3 arg7 x3, ← ld3 arg8 x4, ← ldM c f0]
  all_goals rfl
theorem readLaterDiag_l (hc0 : ¬(isFirst (wordK i T1) = 1#1)) (hc1 : ¬(isBelow (wordQ i T0) (wordK i T1) = 1#1)) (hc2 : isDiag (wordQ i T0) (wordK i T1) = 1#1) (hc4 : k0_cond4 (wordQ i T0) (wordK i T1) = 1#1) : sL.view.read (Elt Ideal) (runLaterDiag c i arg4 harg4 arg5 harg5 arg6 harg6 arg7 harg7 arg8 harg8 arg9 harg9 T0 T1 x0 x1 x2 x3 x4 f0 f1 f2 hc0 hc1 hc2 hc4).2.2.1 = k0_pay3 (k0_pay18 (wordQ i T0) (wordK i T1) x0 x1 x3 x4 (sM.view.read (Elt Ideal) f0) (sL.view.read (Elt Ideal) f1)) (k0_pay19 (wordQ i T0) (wordK i T1) x0 x1 x3 x4 (sM.view.read (Elt Ideal) f0)) := by
  refine (read_full sL.view _ off2 inb_S512x1_S512x1_0_0 _ _).trans ?_
  conv => rhs; rw [← ld2 arg4 x0, ← ld2 arg5 x1, ← ld3 arg7 x3, ← ld3 arg8 x4, ← ldM c f0, ← ldL c f1]
  all_goals rfl
theorem readLaterDiag_a (hc0 : ¬(isFirst (wordK i T1) = 1#1)) (hc1 : ¬(isBelow (wordQ i T0) (wordK i T1) = 1#1)) (hc2 : isDiag (wordQ i T0) (wordK i T1) = 1#1) (hc4 : k0_cond4 (wordQ i T0) (wordK i T1) = 1#1) : sA.view.read (Elt Ideal) (runLaterDiag c i arg4 harg4 arg5 harg5 arg6 harg6 arg7 harg7 arg8 harg8 arg9 harg9 T0 T1 x0 x1 x2 x3 x4 f0 f1 f2 hc0 hc1 hc2 hc4).2.2.2.1 = k0_pay4 (k0_pay16 (wordQ i T0) (wordK i T1) x0 x1 x3 x4 (sM.view.read (Elt Ideal) f0)) (k0_pay17 (wordQ i T0) (wordK i T1) x0 x1 x3 x4 (sM.view.read (Elt Ideal) f0)) (sA.view.read (Elt Ideal) f2) x2 := by
  refine (read_full sA.view _ off2 inb_S512x128_S512x128_0_0 _ _).trans ?_
  conv => rhs; rw [← ld2 arg4 x0, ← ld2 arg5 x1, ← ld3 arg7 x3, ← ld3 arg8 x4, ← ld2 arg6 x2, ← ldM c f0, ← ldA c f2]
  all_goals rfl
/-- What the scratch buffers read as afterwards. -/
theorem readLaterDiag (hc0 : ¬(isFirst (wordK i T1) = 1#1)) (hc1 : ¬(isBelow (wordQ i T0) (wordK i T1) = 1#1)) (hc2 : isDiag (wordQ i T0) (wordK i T1) = 1#1) (hc4 : k0_cond4 (wordQ i T0) (wordK i T1) = 1#1) : readState c (runLaterDiag c i arg4 harg4 arg5 harg5 arg6 harg6 arg7 harg7 arg8 harg8 arg9 harg9 T0 T1 x0 x1 x2 x3 x4 f0 f1 f2 hc0 hc1 hc2 hc4).2.1 (runLaterDiag c i arg4 harg4 arg5 harg5 arg6 harg6 arg7 harg7 arg8 harg8 arg9 harg9 T0 T1 x0 x1 x2 x3 x4 f0 f1 f2 hc0 hc1 hc2 hc4).2.2.1 (runLaterDiag c i arg4 harg4 arg5 harg5 arg6 harg6 arg7 harg7 arg8 harg8 arg9 harg9 T0 T1 x0 x1 x2 x3 x4 f0 f1 f2 hc0 hc1 hc2 hc4).2.2.2.1 = diag (wordQ i T0) (wordK i T1) x0 x1 x2 x3 x4 (readState c f0 f1 f2) := by
  unfold readState
  rw [readLaterDiag_m, readLaterDiag_l, readLaterDiag_a]
  rfl
/-- What is stored to the result's block. -/
theorem outLaterDiag (f : arg9.view.ty.Contents (Elt Ideal)) (hc0 : ¬(isFirst (wordK i T1) = 1#1)) (hc1 : ¬(isBelow (wordQ i T0) (wordK i T1) = 1#1)) (hc2 : isDiag (wordQ i T0) (wordK i T1) = 1#1) (hc4 : k0_cond4 (wordQ i T0) (wordK i T1) = 1#1) : arg9.view.read (Elt Ideal) (arg9.view.writes (Elt Ideal) f (runLaterDiag c i arg4 harg4 arg5 harg5 arg6 harg6 arg7 harg7 arg8 harg8 arg9 harg9 T0 T1 x0 x1 x2 x3 x4 f0 f1 f2 hc0 hc1 hc2 hc4).1) = out (diag (wordQ i T0) (wordK i T1) x0 x1 x2 x3 x4 (readState c f0 f1 f2)) := by
  refine (read_full arg9.view _ off2 inb_S512x128_S512x128_0_0 _ _).trans ?_
  refine congrArg₂ (k0_pay6 (F := Ideal)) (x' := k0_pay4 (k0_pay16 (wordQ i T0) (wordK i T1) x0 x1 x3 x4 (sM.view.read (Elt Ideal) f0)) (k0_pay17 (wordQ i T0) (wordK i T1) x0 x1 x3 x4 (sM.view.read (Elt Ideal) f0)) (sA.view.read (Elt Ideal) f2) x2) (y' := k0_pay3 (k0_pay18 (wordQ i T0) (wordK i T1) x0 x1 x3 x4 (sM.view.read (Elt Ideal) f0) (sL.view.read (Elt Ideal) f1)) (k0_pay19 (wordQ i T0) (wordK i T1) x0 x1 x3 x4 (sM.view.read (Elt Ideal) f0))) ((readCov_full sA.view off2 inb_S512x128_S512x128_0_0 _ _ _).trans ?_) ((readCov_full sL.view off2 inb_S512x1_S512x1_0_0 _ _ _).trans ?_)
  · skip
    conv => rhs; rw [← ld2 arg4 x0, ← ld2 arg5 x1, ← ld3 arg7 x3, ← ld3 arg8 x4, ← ld2 arg6 x2, ← ldM c f0, ← ldA c f2]
    rfl
  · conv => rhs; rw [← ld2 arg4 x0, ← ld2 arg5 x1, ← ld3 arg7 x3, ← ld3 arg8 x4, ← ldM c f0, ← ldL c f1]
    rfl

theorem readLaterBelow_m (hc0 : ¬(isFirst (wordK i T1) = 1#1)) (hc1 : isBelow (wordQ i T0) (wordK i T1) = 1#1) (hc2 : ¬(isDiag (wordQ i T0) (wordK i T1) = 1#1)) (hc4 : ¬(k0_cond4 (wordQ i T0) (wordK i T1) = 1#1)) : sM.view.read (Elt Ideal) (runLaterBelow c i arg4 harg4 arg5 harg5 arg6 harg6 arg7 harg7 arg8 harg8 arg9 harg9 T0 T1 x0 x1 x2 x3 x4 f0 f1 f2 hc0 hc1 hc2 hc4).1 = k0_pay2 (k0_pay8 x0 x1 x3 x4 (sM.view.read (Elt Ideal) f0)) := by
  refine (read_full sM.view _ off2 inb_S512x1_S512x1_0_0 _ _).trans ?_
  conv => rhs; rw [← ld2 arg4 x0, ← ld2 arg5 x1, ← ld3 arg7 x3, ← ld3 arg8 x4, ← ldM c f0]
  all_goals rfl
theorem readLaterBelow_l (hc0 : ¬(isFirst (wordK i T1) = 1#1)) (hc1 : isBelow (wordQ i T0) (wordK i T1) = 1#1) (hc2 : ¬(isDiag (wordQ i T0) (wordK i T1) = 1#1)) (hc4 : ¬(k0_cond4 (wordQ i T0) (wordK i T1) = 1#1)) : sL.view.read (Elt Ideal) (runLaterBelow c i arg4 harg4 arg5 harg5 arg6 harg6 arg7 harg7 arg8 harg8 arg9 harg9 T0 T1 x0 x1 x2 x3 x4 f0 f1 f2 hc0 hc1 hc2 hc4).2.1 = k0_pay11 x0 x1 x3 x4 (sM.view.read (Elt Ideal) f0) (sL.view.read (Elt Ideal) f1) := by
  refine (read_full sL.view _ off2 inb_S512x1_S512x1_0_0 _ _).trans ?_
  conv => rhs; rw [← ld2 arg4 x0, ← ld2 arg5 x1, ← ld3 arg7 x3, ← ld3 arg8 x4, ← ldM c f0, ← ldL c f1]
  all_goals rfl
theorem readLaterBelow_a (hc0 : ¬(isFirst (wordK i T1) = 1#1)) (hc1 : isBelow (wordQ i T0) (wordK i T1) = 1#1) (hc2 : ¬(isDiag (wordQ i T0) (wordK i T1) = 1#1)) (hc4 : ¬(k0_cond4 (wordQ i T0) (wordK i T1) = 1#1)) : sA.view.read (Elt Ideal) (runLaterBelow c i arg4 harg4 arg5 harg5 arg6 harg6 arg7 harg7 arg8 harg8 arg9 harg9 T0 T1 x0 x1 x2 x3 x4 f0 f1 f2 hc0 hc1 hc2 hc4).2.2.1 = k0_pay1 (k0_pay12 x0 x1 x3 x4 (sM.view.read (Elt Ideal) f0) (sA.view.read (Elt Ideal) f2)) (k0_pay13 x0 x1 x3 x4 (sM.view.read (Elt Ideal) f0)) x2 := by
  refine (read_full sA.view _ off2 inb_S512x128_S512x128_0_0 _ _).trans ?_
  conv => rhs; rw [← ld2 arg4 x0, ← ld2 arg5 x1, ← ld3 arg7 x3, ← ld3 arg8 x4, ← ld2 arg6 x2, ← ldM c f0, ← ldA c f2]
  all_goals rfl
/-- What the scratch buffers read as afterwards. -/
theorem readLaterBelow (hc0 : ¬(isFirst (wordK i T1) = 1#1)) (hc1 : isBelow (wordQ i T0) (wordK i T1) = 1#1) (hc2 : ¬(isDiag (wordQ i T0) (wordK i T1) = 1#1)) (hc4 : ¬(k0_cond4 (wordQ i T0) (wordK i T1) = 1#1)) : readState c (runLaterBelow c i arg4 harg4 arg5 harg5 arg6 harg6 arg7 harg7 arg8 harg8 arg9 harg9 T0 T1 x0 x1 x2 x3 x4 f0 f1 f2 hc0 hc1 hc2 hc4).1 (runLaterBelow c i arg4 harg4 arg5 harg5 arg6 harg6 arg7 harg7 arg8 harg8 arg9 harg9 T0 T1 x0 x1 x2 x3 x4 f0 f1 f2 hc0 hc1 hc2 hc4).2.1 (runLaterBelow c i arg4 harg4 arg5 harg5 arg6 harg6 arg7 harg7 arg8 harg8 arg9 harg9 T0 T1 x0 x1 x2 x3 x4 f0 f1 f2 hc0 hc1 hc2 hc4).2.2.1 = below x0 x1 x2 x3 x4 (readState c f0 f1 f2) := by
  unfold readState
  rw [readLaterBelow_m, readLaterBelow_l, readLaterBelow_a]
  rfl

end Results

end Cert.KernelIdeal.Attn

end
-- ==== Proof.RunKernelIdeal.lean ====
/- The whole grid of the kernel: what the scratch buffers hold before each point, the body's run at each point, and from
   these the kernel's run, which leaves its arguments as they were and in its result what the last step of each block of
   rows stores. -/
module

public import proofs.«01_k».proof.Proof.StepKernelIdeal
public import Idealize.ShloMosaic.Lib.StableHlo.Run
public import Idealize.ShloMosaic.Lib.StableHlo.RunRead
public import Idealize.ShloMosaic.Lib.Claim
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Adequacy
public import Idealize.ShloMosaic.Init

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (g : Dev nD → PrngReg)

/-- What the buffers hold when the kernel is called: the arguments as given, the tables as written. -/
def V (c : Dev nD) (b : Ref sig .tc) : Buf (Elt Ideal) ((c.tc : Thread nD τ).loc b) := StableHlo.after hostOps0 (fun b => m (c, b)) (b : DevRef τ sig)

theorem V_arg0 (c : Dev nD) : V m c main_arg0 = m ((c.tc : Thread nD τ).loc main_arg0) := by
  unfold V
  exact StableHlo.after_unwritten [main_c, main_c_0] rfl (by decide) _
theorem V_arg1 (c : Dev nD) : V m c main_arg1 = m ((c.tc : Thread nD τ).loc main_arg1) := by
  unfold V
  exact StableHlo.after_unwritten [main_c, main_c_0] rfl (by decide) _

/-- The tables hold what the pipeline is run at. -/
theorem V_pre (c : Dev nD) (k : Fin 2) : V m c (pre0.ref k) = adm.1 k := by
  fin_cases k
  · exact (StableHlo.after_last_write (i := 0) [main_c_0] rfl rfl (by decide) _).trans ((StableHlo.nullary_result' _ _ _).trans tabQ_eq)
  · exact (StableHlo.after_last_write (i := 1) [] rfl rfl (by decide) _).trans ((StableHlo.nullary_result' _ _ _).trans tabK_eq)

/-- A window's block at a grid point. -/
def iblk (c : Dev nD) (w : Fin 6) (t : Fin cfgA.N) : ((cfgA.win w).block).Idx → Elt Ideal (cfgA.win w).elt :=
  ((cfgA.win w).blk t).view.read (Elt Ideal) (V m c (Pipeline.arrRef spec0 w))

/-- What a step makes of the scratch buffers' contents. -/
def stepAt (c : Dev nD) (t : Fin cfgA.N) (S : State) : State :=
  if colOf (t.val % 136) = rowOf (t.val % 136) then
    diag (BitVec.ofNat 32 (rowOf (t.val % 136))) (BitVec.ofNat 32 (colOf (t.val % 136))) (iblk m c 0 t) (iblk m c 1 t) (iblk m c 2 t) (iblk m c 3 t) (iblk m c 4 t)
      (if colOf (t.val % 136) = 0 then start else S)
  else below (iblk m c 0 t) (iblk m c 1 t) (iblk m c 2 t) (iblk m c 3 t) (iblk m c 4 t) (if colOf (t.val % 136) = 0 then start else S)

/-- What the scratch buffers hold after the first `n` points. -/
def traj (c : Dev nD) : ℕ → State
  | 0 => start
  | n + 1 => if h : n < cfgA.N then stepAt m c ⟨n, h⟩ (traj c n) else start

theorem traj_succ (c : Dev nD) (t : Fin cfgA.N) : traj m c (t.val + 1) = stepAt m c t (traj m c t.val) := by
  rw [traj, dif_pos t.isLt]

/-- A step at the first block of keys does not read the scratch buffers. -/
theorem stepAt_eq (c : Dev nD) (t : Fin cfgA.N) (S : State) (h : colOf (t.val % 136) ≠ 0 → S = traj m c t.val) : stepAt m c t S = traj m c (t.val + 1) := by
  rw [traj_succ]
  by_cases h0 : colOf (t.val % 136) = 0
  · unfold stepAt; simp only [if_pos h0]
  · rw [h h0]

/-- Before a point: the scratch buffers hold what the points before left, unless the point starts a block of rows. -/
def Phi (c : Dev nD) (t : Fin (cfgA.N + 1)) : sProp 𝕄 :=
  iprop(∃ f0 f1 f2, ⌜colOf (t.val % 136) ≠ 0 → readState c f0 f1 f2 = traj m c t.val⌝
    ∗ (sM.view.loc (c : Thread nD τ) ↦{fullShare} f0) ∗ (sL.view.loc (c : Thread nD τ) ↦{fullShare} f1) ∗ (sA.view.loc (c : Thread nD τ) ↦{fullShare} f2)
    ∗ (tQ.view.loc (c : Thread nD τ) ↦{fullShare.right} tabQ) ∗ (tK.view.loc (c : Thread nD τ) ↦{fullShare.right} tabK) ∗ (∃ r, prngReg c r))

/-- The pipeline's data: each input's block, the result's block at what the point leaves to store. -/
def dats (_ : Fin 1) (c : Dev nD) : Dat τ (Elt Ideal) Unit ℕ (UR sig nD τ) ℕ cfgA c where
  A w := V m c (Pipeline.arrRef spec0 w)
  after w t := match w with
    | ⟨0, _⟩ => iblk m c (0 : Fin 6) t
    | ⟨1, _⟩ => iblk m c (1 : Fin 6) t
    | ⟨2, _⟩ => iblk m c (2 : Fin 6) t
    | ⟨3, _⟩ => iblk m c (3 : Fin 6) t
    | ⟨4, _⟩ => iblk m c (4 : Fin 6) t
    | ⟨5, _⟩ => out (traj m c (t.val + 1))
  Φ t := Phi m c t
  q w := Pipeline.shareOf spec0 w
  owed _ := 0

theorem after0_0 (c : Dev nD) (t : Fin cfgA.N) : (dats m 0 c).after (0 : Fin 6) t = iblk m c (0 : Fin 6) t := rfl
theorem after0_1 (c : Dev nD) (t : Fin cfgA.N) : (dats m 0 c).after (1 : Fin 6) t = iblk m c (1 : Fin 6) t := rfl
theorem after0_2 (c : Dev nD) (t : Fin cfgA.N) : (dats m 0 c).after (2 : Fin 6) t = iblk m c (2 : Fin 6) t := rfl
theorem after0_3 (c : Dev nD) (t : Fin cfgA.N) : (dats m 0 c).after (3 : Fin 6) t = iblk m c (3 : Fin 6) t := rfl
theorem after0_4 (c : Dev nD) (t : Fin cfgA.N) : (dats m 0 c).after (4 : Fin 6) t = iblk m c (4 : Fin 6) t := rfl
theorem after0_5 (c : Dev nD) (t : Fin cfgA.N) : (dats m 0 c).after (5 : Fin 6) t = out (traj m c (t.val + 1)) := rfl

/-- Input window 0 holds its block. -/
theorem before0_0 (c : Dev nD) (t : Fin cfgA.N) (d) : (dats m 0 c).before (0 : Fin 6) t d = iblk m c (0 : Fin 6) t :=
  ((dats m 0 c).before_in_eq_fetched (0 : Fin 6) rfl (fun _ => rfl) (fun _ _ _ => rfl) (fun t => by rw [after0_0]; unfold Dat.blockOf iblk; rfl) t d).trans
    (by unfold Dat.fetched Dat.blockOf iblk; rfl)

/-- Input window 1 holds its block. -/
theorem before0_1 (c : Dev nD) (t : Fin cfgA.N) (d) : (dats m 0 c).before (1 : Fin 6) t d = iblk m c (1 : Fin 6) t :=
  ((dats m 0 c).before_in_eq_fetched (1 : Fin 6) rfl (fun _ => rfl) (fun _ _ _ => rfl) (fun t => by rw [after0_1]; unfold Dat.blockOf iblk; rfl) t d).trans
    (by unfold Dat.fetched Dat.blockOf iblk; rfl)

/-- Input window 2 holds its block. -/
theorem before0_2 (c : Dev nD) (t : Fin cfgA.N) (d) : (dats m 0 c).before (2 : Fin 6) t d = iblk m c (2 : Fin 6) t :=
  ((dats m 0 c).before_in_eq_fetched (2 : Fin 6) rfl (fun _ => rfl) (fun _ _ _ => rfl) (fun t => by rw [after0_2]; unfold Dat.blockOf iblk; rfl) t d).trans
    (by unfold Dat.fetched Dat.blockOf iblk; rfl)

/-- Input window 3 holds its block. -/
theorem before0_3 (c : Dev nD) (t : Fin cfgA.N) (d) : (dats m 0 c).before (3 : Fin 6) t d = iblk m c (3 : Fin 6) t :=
  ((dats m 0 c).before_in_eq_fetched (3 : Fin 6) rfl (fun _ => rfl) (fun _ _ _ => rfl) (fun t => by rw [after0_3]; unfold Dat.blockOf iblk; rfl) t d).trans
    (by unfold Dat.fetched Dat.blockOf iblk; rfl)

/-- Input window 4 holds its block. -/
theorem before0_4 (c : Dev nD) (t : Fin cfgA.N) (d) : (dats m 0 c).before (4 : Fin 6) t d = iblk m c (4 : Fin 6) t :=
  ((dats m 0 c).before_in_eq_fetched (4 : Fin 6) rfl (fun _ => rfl) (fun _ _ _ => rfl) (fun t => by rw [after0_4]; unfold Dat.blockOf iblk; rfl) t d).trans
    (by unfold Dat.fetched Dat.blockOf iblk; rfl)

/-! ## The body at a point -/

abbrev ms0 (t : Fin cfgA.N) : Memref sig .tc .vmem S512x128 .f32 := spec0_0.stage (cfgA.slots t (0 : Fin 6))
abbrev hs0 (t : Fin cfgA.N) : (ms0 t).IsWhole := hstage0_0 ((cfgA.slots t (0 : Fin 6)).cast nbuf0_0)
abbrev ms1 (t : Fin cfgA.N) : Memref sig .tc .vmem S512x128 .f32 := spec0_1.stage (cfgA.slots t (1 : Fin 6))
abbrev hs1 (t : Fin cfgA.N) : (ms1 t).IsWhole := hstage0_1 ((cfgA.slots t (1 : Fin 6)).cast nbuf0_1)
abbrev ms2 (t : Fin cfgA.N) : Memref sig .tc .vmem S512x128 .f32 := spec0_2.stage (cfgA.slots t (2 : Fin 6))
abbrev hs2 (t : Fin cfgA.N) : (ms2 t).IsWhole := hstage0_2 ((cfgA.slots t (2 : Fin 6)).cast nbuf0_2)
abbrev ms3 (t : Fin cfgA.N) : Memref sig .tc .vmem S1x1x512 .f32 := spec0_3.stage (cfgA.slots t (3 : Fin 6))
abbrev hs3 (t : Fin cfgA.N) : (ms3 t).IsWhole := hstage0_3 ((cfgA.slots t (3 : Fin 6)).cast nbuf0_3)
abbrev ms4 (t : Fin cfgA.N) : Memref sig .tc .vmem S1x1x512 .f32 := spec0_4.stage (cfgA.slots t (4 : Fin 6))
abbrev hs4 (t : Fin cfgA.N) : (ms4 t).IsWhole := hstage0_4 ((cfgA.slots t (4 : Fin 6)).cast nbuf0_4)
abbrev ms5 (t : Fin cfgA.N) : Memref sig .tc .vmem S512x128 .bf16 := spec0_5.stage (cfgA.slots t (5 : Fin 6))
abbrev hs5 (t : Fin cfgA.N) : (ms5 t).IsWhole := hstage0_5 ((cfgA.slots t (5 : Fin 6)).cast nbuf0_5)

/-- The body at a point on its staging buffers. -/
abbrev bodyAt (t : Fin cfgA.N) : Prog (TpuEff nD τ sig (Elt Ideal) Λ₀ .tc) PUnit :=
  cc0_fox_attention (crd t) tQ (Memref.isWhole_whole _) tK (Memref.isWhole_whole _) (ms0 t) (hs0 t) (ms1 t) (hs1 t) (ms2 t) (hs2 t) (ms3 t) (hs3 t) (ms4 t) (hs4 t) (ms5 t) (hs5 t) sM (Memref.isWhole_whole _) sL (Memref.isWhole_whole _) sA (Memref.isWhole_whole _)

set_option maxHeartbeats 4000000 in
/-- The body at a point: the words it reads tell the way it goes; the run that goes that way applies. -/
theorem sound_body (c : Dev nD) (t : Fin cfgA.N) :
    iprop((dats m 0 c).Φ t.castSucc ∗ (dats m 0 c).owesAt () t.castSucc
        ∗ (∃ d, owns (c : Thread nD τ) (ms0 t) fullShare ((dats m 0 c).before (0 : Fin 6) t d))
        ∗ (∃ d, owns (c : Thread nD τ) (ms1 t) fullShare ((dats m 0 c).before (1 : Fin 6) t d))
        ∗ (∃ d, owns (c : Thread nD τ) (ms2 t) fullShare ((dats m 0 c).before (2 : Fin 6) t d))
        ∗ (∃ d, owns (c : Thread nD τ) (ms3 t) fullShare ((dats m 0 c).before (3 : Fin 6) t d))
        ∗ (∃ d, owns (c : Thread nD τ) (ms4 t) fullShare ((dats m 0 c).before (4 : Fin 6) t d))
        ∗ (∃ d, owns (c : Thread nD τ) (ms5 t) fullShare ((dats m 0 c).before (5 : Fin 6) t d)))
      ⊢ wp frame (wpE (defs₀ (F := Ideal)) Variants.none c none) Set.univ (bodyAt t) fun _ =>
          iprop((dats m 0 c).Φ t.succ ∗ (dats m 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m 0 c).before w t d))
                  | true => owns (c : Thread nD τ) ((cfgA.win w).stage (cfgA.slots t w)) fullShare ((dats m 0 c).after w t)
                | false => owns (c : Thread nD τ) ((cfgA.win w).stage (cfgA.slots t w)) fullShare ((dats m 0 c).after w t)) := by
  rw [bigSep_W0]
  have i5 := idle_eq t
  have f5 := flush_eq t
  have hrc : colOf (t.val % 136) ≤ rowOf (t.val % 136) := col_le_row ⟨t.val % 136, Nat.mod_lt _ (by decide)⟩
  have hwq : wordQ (crd t) tabQ = BitVec.ofNat 32 (rowOf (t.val % 136)) := by rw [wordQ_eq, crd_step]
  have hwk : wordK (crd t) tabK = BitVec.ofNat 32 (colOf (t.val % 136)) := by rw [wordK_eq, crd_step]
  by_cases q0 : colOf (t.val % 136) = 0
  · by_cases q1 : colOf (t.val % 136) = rowOf (t.val % 136)
    · have hc0 := first_iff t
      replace hc0 : isFirst (wordK (crd t) tabK) = 1#1 := (first_iff t).mpr q0
      have hc1 : ¬(isBelow (wordQ (crd t) tabQ) (wordK (crd t) tabK) = 1#1) := fun h => absurd ((below_iff t).mp h) (by omega)
      have hc2 : isDiag (wordQ (crd t) tabQ) (wordK (crd t) tabK) = 1#1 := (diag_iff t).mpr (by omega)
      have hc4 : k0_cond4 (wordQ (crd t) tabQ) (wordK (crd t) tabK) = 1#1 := (last_iff t).mpr q1
      rw [decide_eq_false (by omega)] at i5
      rw [decide_eq_true q1] at f5
      rewrite [i5]
      simp only [before0_0, before0_1, before0_2, before0_3, before0_4, after0_0, after0_1, after0_2, after0_3, after0_4, after0_5, f5]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi; simp only [Fin.val_castSucc, Fin.val_succ]
      iintro ⟨⟨%f0, %f1, %f2, %hS, HS0, HS1, HS2, HT0, HT1, Hr⟩, Ho, ⟨%d0, H0⟩, ⟨%d1, H1⟩, ⟨%d2, H2⟩, ⟨%d3, H3⟩, ⟨%d4, H4⟩, ⟨%d5, H5⟩⟩
      have hn := readFirstDiag c (crd t) (ms0 t) (hs0 t) (ms1 t) (hs1 t) (ms2 t) (hs2 t) (ms3 t) (hs3 t) (ms4 t) (hs4 t) (ms5 t) (hs5 t) tabQ tabK (iblk m c (0 : Fin 6) t) (iblk m c (1 : Fin 6) t) (iblk m c (2 : Fin 6) t) (iblk m c (3 : Fin 6) t) (iblk m c (4 : Fin 6) t) f0 f1 f2 hc0 hc1 hc2 hc4
      have hs : stepAt m c t (readState c f0 f1 f2) = traj m c (t.val + 1) := stepAt_eq m c t _ hS
      unfold stepAt at hs
      rw [if_pos q1, if_pos q0, ← hwq, ← hwk] at hs
      rw [hs] at hn
      iapply ((runFirstDiag c (crd t) (ms0 t) (hs0 t) (ms1 t) (hs1 t) (ms2 t) (hs2 t) (ms3 t) (hs3 t) (ms4 t) (hs4 t) (ms5 t) (hs5 t) tabQ tabK (iblk m c (0 : Fin 6) t) (iblk m c (1 : Fin 6) t) (iblk m c (2 : Fin 6) t) (iblk m c (3 : Fin 6) t) (iblk m c (4 : Fin 6) t) f0 f1 f2 hc0 hc1 hc2 hc4).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      isplitl [HS2]; · iexact HS2
      iintro ⟨H0, H1, H2, H3, H4, HT0, HT1, ⟨%e5, H5⟩, HS0, HS1, HS2⟩
      isplitl [HS0 HS1 HS2 HT0 HT1 Hr]
      · iexists _, _, _
        isplitr; swap
        · isplitl [HS0]; · iexact HS0
          isplitl [HS1]; · iexact HS1
          isplitl [HS2]; · iexact HS2
          isplitl [HT0]; · iexact HT0
          isplitl [HT1]; · iexact HT1
          iexact Hr
        · ipureintro; exact fun _ => hn
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      unfold owns; iexists _; isplitr; swap
      · iexact H5
      · ipureintro
        exact (outFirstDiag c (crd t) (ms0 t) (hs0 t) (ms1 t) (hs1 t) (ms2 t) (hs2 t) (ms3 t) (hs3 t) (ms4 t) (hs4 t) (ms5 t) (hs5 t) tabQ tabK (iblk m c (0 : Fin 6) t) (iblk m c (1 : Fin 6) t) (iblk m c (2 : Fin 6) t) (iblk m c (3 : Fin 6) t) (iblk m c (4 : Fin 6) t) f0 f1 f2 _ hc0 hc1 hc2 hc4).trans (congrArg out hs)
    · have hc0 := first_iff t
      replace hc0 : isFirst (wordK (crd t) tabK) = 1#1 := (first_iff t).mpr q0
      have hc1 : isBelow (wordQ (crd t) tabQ) (wordK (crd t) tabK) = 1#1 := (below_iff t).mpr (by omega)
      have hc2 : ¬(isDiag (wordQ (crd t) tabQ) (wordK (crd t) tabK) = 1#1) := fun h => q1 (le_antisymm hrc ((diag_iff t).mp h))
      have hc4 : ¬(k0_cond4 (wordQ (crd t) tabQ) (wordK (crd t) tabK) = 1#1) := fun h => q1 ((last_iff t).mp h)
      rw [decide_eq_true (by omega)] at i5
      rw [decide_eq_false q1] at f5
      rewrite [i5]
      simp only [before0_0, before0_1, before0_2, before0_3, before0_4, after0_0, after0_1, after0_2, after0_3, after0_4, after0_5, f5]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi; simp only [Fin.val_castSucc, Fin.val_succ]
      iintro ⟨⟨%f0, %f1, %f2, %hS, HS0, HS1, HS2, HT0, HT1, Hr⟩, Ho, ⟨%d0, H0⟩, ⟨%d1, H1⟩, ⟨%d2, H2⟩, ⟨%d3, H3⟩, ⟨%d4, H4⟩, ⟨%d5, H5⟩⟩
      have hn := readFirstBelow c (crd t) (ms0 t) (hs0 t) (ms1 t) (hs1 t) (ms2 t) (hs2 t) (ms3 t) (hs3 t) (ms4 t) (hs4 t) (ms5 t) (hs5 t) tabQ tabK (iblk m c (0 : Fin 6) t) (iblk m c (1 : Fin 6) t) (iblk m c (2 : Fin 6) t) (iblk m c (3 : Fin 6) t) (iblk m c (4 : Fin 6) t) f0 f1 f2 hc0 hc1 hc2 hc4
      have hs : stepAt m c t (readState c f0 f1 f2) = traj m c (t.val + 1) := stepAt_eq m c t _ hS
      unfold stepAt at hs
      rw [if_neg q1, if_pos q0] at hs
      rw [hs] at hn
      iapply ((runFirstBelow c (crd t) (ms0 t) (hs0 t) (ms1 t) (hs1 t) (ms2 t) (hs2 t) (ms3 t) (hs3 t) (ms4 t) (hs4 t) (ms5 t) (hs5 t) tabQ tabK (iblk m c (0 : Fin 6) t) (iblk m c (1 : Fin 6) t) (iblk m c (2 : Fin 6) t) (iblk m c (3 : Fin 6) t) (iblk m c (4 : Fin 6) t) f0 f1 f2 hc0 hc1 hc2 hc4).2.2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      isplitl [HS2]; · iexact HS2
      iintro ⟨H0, H1, H2, H3, H4, HT0, HT1, H5, HS0, HS1, HS2⟩
      isplitl [HS0 HS1 HS2 HT0 HT1 Hr]
      · iexists _, _, _
        isplitr; swap
        · isplitl [HS0]; · iexact HS0
          isplitl [HS1]; · iexact HS1
          isplitl [HS2]; · iexact HS2
          isplitl [HT0]; · iexact HT0
          isplitl [HT1]; · iexact HT1
          iexact Hr
        · ipureintro; exact fun _ => hn
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexists d5; iexact H5
  · by_cases q1 : colOf (t.val % 136) = rowOf (t.val % 136)
    · have hc0 := first_iff t
      replace hc0 : ¬(isFirst (wordK (crd t) tabK) = 1#1) := fun h => q0 ((first_iff t).mp h)
      have hc1 : ¬(isBelow (wordQ (crd t) tabQ) (wordK (crd t) tabK) = 1#1) := fun h => absurd ((below_iff t).mp h) (by omega)
      have hc2 : isDiag (wordQ (crd t) tabQ) (wordK (crd t) tabK) = 1#1 := (diag_iff t).mpr (by omega)
      have hc4 : k0_cond4 (wordQ (crd t) tabQ) (wordK (crd t) tabK) = 1#1 := (last_iff t).mpr q1
      rw [decide_eq_false (by omega)] at i5
      rw [decide_eq_true q1] at f5
      rewrite [i5]
      simp only [before0_0, before0_1, before0_2, before0_3, before0_4, after0_0, after0_1, after0_2, after0_3, after0_4, after0_5, f5]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi; simp only [Fin.val_castSucc, Fin.val_succ]
      iintro ⟨⟨%f0, %f1, %f2, %hS, HS0, HS1, HS2, HT0, HT1, Hr⟩, Ho, ⟨%d0, H0⟩, ⟨%d1, H1⟩, ⟨%d2, H2⟩, ⟨%d3, H3⟩, ⟨%d4, H4⟩, ⟨%d5, H5⟩⟩
      have hn := readLaterDiag c (crd t) (ms0 t) (hs0 t) (ms1 t) (hs1 t) (ms2 t) (hs2 t) (ms3 t) (hs3 t) (ms4 t) (hs4 t) (ms5 t) (hs5 t) tabQ tabK (iblk m c (0 : Fin 6) t) (iblk m c (1 : Fin 6) t) (iblk m c (2 : Fin 6) t) (iblk m c (3 : Fin 6) t) (iblk m c (4 : Fin 6) t) f0 f1 f2 hc0 hc1 hc2 hc4
      have hs : stepAt m c t (readState c f0 f1 f2) = traj m c (t.val + 1) := stepAt_eq m c t _ hS
      unfold stepAt at hs
      rw [if_pos q1, if_neg q0, ← hwq, ← hwk] at hs
      rw [hs] at hn
      iapply ((runLaterDiag c (crd t) (ms0 t) (hs0 t) (ms1 t) (hs1 t) (ms2 t) (hs2 t) (ms3 t) (hs3 t) (ms4 t) (hs4 t) (ms5 t) (hs5 t) tabQ tabK (iblk m c (0 : Fin 6) t) (iblk m c (1 : Fin 6) t) (iblk m c (2 : Fin 6) t) (iblk m c (3 : Fin 6) t) (iblk m c (4 : Fin 6) t) f0 f1 f2 hc0 hc1 hc2 hc4).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      isplitl [HS2]; · iexact HS2
      iintro ⟨H0, H1, H2, H3, H4, HT0, HT1, ⟨%e5, H5⟩, HS0, HS1, HS2⟩
      isplitl [HS0 HS1 HS2 HT0 HT1 Hr]
      · iexists _, _, _
        isplitr; swap
        · isplitl [HS0]; · iexact HS0
          isplitl [HS1]; · iexact HS1
          isplitl [HS2]; · iexact HS2
          isplitl [HT0]; · iexact HT0
          isplitl [HT1]; · iexact HT1
          iexact Hr
        · ipureintro; exact fun _ => hn
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      unfold owns; iexists _; isplitr; swap
      · iexact H5
      · ipureintro
        exact (outLaterDiag c (crd t) (ms0 t) (hs0 t) (ms1 t) (hs1 t) (ms2 t) (hs2 t) (ms3 t) (hs3 t) (ms4 t) (hs4 t) (ms5 t) (hs5 t) tabQ tabK (iblk m c (0 : Fin 6) t) (iblk m c (1 : Fin 6) t) (iblk m c (2 : Fin 6) t) (iblk m c (3 : Fin 6) t) (iblk m c (4 : Fin 6) t) f0 f1 f2 _ hc0 hc1 hc2 hc4).trans (congrArg out hs)
    · have hc0 := first_iff t
      replace hc0 : ¬(isFirst (wordK (crd t) tabK) = 1#1) := fun h => q0 ((first_iff t).mp h)
      have hc1 : isBelow (wordQ (crd t) tabQ) (wordK (crd t) tabK) = 1#1 := (below_iff t).mpr (by omega)
      have hc2 : ¬(isDiag (wordQ (crd t) tabQ) (wordK (crd t) tabK) = 1#1) := fun h => q1 (le_antisymm hrc ((diag_iff t).mp h))
      have hc4 : ¬(k0_cond4 (wordQ (crd t) tabQ) (wordK (crd t) tabK) = 1#1) := fun h => q1 ((last_iff t).mp h)
      rw [decide_eq_true (by omega)] at i5
      rw [decide_eq_false q1] at f5
      rewrite [i5]
      simp only [before0_0, before0_1, before0_2, before0_3, before0_4, after0_0, after0_1, after0_2, after0_3, after0_4, after0_5, f5]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      unfold Phi; simp only [Fin.val_castSucc, Fin.val_succ]
      iintro ⟨⟨%f0, %f1, %f2, %hS, HS0, HS1, HS2, HT0, HT1, Hr⟩, Ho, ⟨%d0, H0⟩, ⟨%d1, H1⟩, ⟨%d2, H2⟩, ⟨%d3, H3⟩, ⟨%d4, H4⟩, ⟨%d5, H5⟩⟩
      have hn := readLaterBelow c (crd t) (ms0 t) (hs0 t) (ms1 t) (hs1 t) (ms2 t) (hs2 t) (ms3 t) (hs3 t) (ms4 t) (hs4 t) (ms5 t) (hs5 t) tabQ tabK (iblk m c (0 : Fin 6) t) (iblk m c (1 : Fin 6) t) (iblk m c (2 : Fin 6) t) (iblk m c (3 : Fin 6) t) (iblk m c (4 : Fin 6) t) f0 f1 f2 hc0 hc1 hc2 hc4
      have hs : stepAt m c t (readState c f0 f1 f2) = traj m c (t.val + 1) := stepAt_eq m c t _ hS
      unfold stepAt at hs
      rw [if_neg q1, if_neg q0] at hs
      rw [hs] at hn
      iapply ((runLaterBelow c (crd t) (ms0 t) (hs0 t) (ms1 t) (hs1 t) (ms2 t) (hs2 t) (ms3 t) (hs3 t) (ms4 t) (hs4 t) (ms5 t) (hs5 t) tabQ tabK (iblk m c (0 : Fin 6) t) (iblk m c (1 : Fin 6) t) (iblk m c (2 : Fin 6) t) (iblk m c (3 : Fin 6) t) (iblk m c (4 : Fin 6) t) f0 f1 f2 hc0 hc1 hc2 hc4).2.2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      isplitl [HS2]; · iexact HS2
      iintro ⟨H0, H1, H2, H3, H4, HT0, HT1, H5, HS0, HS1, HS2⟩
      isplitl [HS0 HS1 HS2 HT0 HT1 Hr]
      · iexists _, _, _
        isplitr; swap
        · isplitl [HS0]; · iexact HS0
          isplitl [HS1]; · iexact HS1
          isplitl [HS2]; · iexact HS2
          isplitl [HT0]; · iexact HT0
          isplitl [HT1]; · iexact HT1
          iexact Hr
        · ipureintro; exact fun _ => hn
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexists d5; iexact H5

/-- The body's obligation at every point. -/
theorem body_obligation (c : Dev nD) : BodyObligation (dats m 0 c) (defs₀ (F := Ideal)) Variants.none () Set.univ := fun t => by
  rw [bigSep_W0]
  exact sound_body m c t

/-! ## The launch -/

/-- The tables as the launch hands them over. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- Before the first point. -/
theorem phi_intro (c : Dev nD) : iprop(Pipeline.ΦA spec0 c ∗ Pipeline.ΦT pre0 adm.1 c) ⊢ (dats m 0 c).Φ 0 := by
  unfold Pipeline.ΦA Pipeline.ΦT
  rw [prefHeld_eq, scopedRest0_eq, show (dats m 0 c).Φ 0 = Phi m c 0 from rfl]
  unfold Phi
  iintro ⟨⟨⟨⟨%a0, HS0⟩, ⟨%a1, HS1⟩, ⟨%a2, HS2⟩⟩, Hr⟩, HT0, HT1⟩
  iexists a0, a1, a2
  isplitr; swap
  · isplitl [HS0]; · iexact HS0
    isplitl [HS1]; · iexact HS1
    isplitl [HS2]; · iexact HS2
    isplitl [HT0]; · iexact HT0
    isplitl [HT1]; · iexact HT1
    iexact Hr
  · ipureintro; exact fun h => absurd col_zero h

/-- After the last. -/
theorem phi_exit (c : Dev nD) : (dats m 0 c).Φ (Fin.last cfgA.N) ⊢ Pipeline.ΦA spec0 c := by
  unfold Pipeline.ΦA
  rw [scopedRest0_eq, show (dats m 0 c).Φ (Fin.last cfgA.N) = Phi m c (Fin.last _) from rfl]
  unfold Phi
  iintro ⟨%a0, %a1, %a2, -, HS0, HS1, HS2, -, -, Hr⟩
  isplitr [Hr]; swap
  · iexact Hr
  isplitl [HS0]; · iexists a0; iexact HS0
  isplitl [HS1]; · iexists a1; iexact HS1
  iexists a2; iexact HS2

set_option maxHeartbeats 4000000 in
/-- The kernel's run: its arguments end as they were, its result at what the pipeline's write-backs make of it, and every
    counter at zero. -/
theorem run_main : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v0) = (dats m 0 c).arrAt (5 : Fin 6) cfgA.N)
      ∧ r.2.sem = fun _ => 0) :=
  Pipeline.θ_run_frameP_track_shared pcfgs (fun _ => adm) (dats m) (0 : Fin 1) launch₀0 defs₀ Variants.none m g main
    (fun c => (body_obligation m c).loose) (fun c w _ => rfl) (fun _ _ => rfl) (V m)
    (Pipeline.hmainP_prefix pcfgs (0 : Fin 1) defs₀ Variants.none m main hostOps0 hostOps0_sub (by decide) main_chain)
    (fun _ _ => rfl) (V_pre m) (phi_intro m) (phi_exit m) _
    (fun r h => ⟨fun c => ⟨(((h.1 c).1 (0 : Fin 6)).trans ((dats m 0 c).arrAt_in (0 : Fin 6) rfl _)).trans (V_arg0 m c),
      (((h.1 c).1 (3 : Fin 6)).trans ((dats m 0 c).arrAt_in (3 : Fin 6) rfl _)).trans (V_arg1 m c), (h.1 c).1 (5 : Fin 6)⟩, h.2⟩)

/-- Without the result: the arguments end as they were and every counter reads zero. -/
theorem frame : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1, (h.1 c).2.1⟩, h.2⟩) (run_main m g)

end Cert.KernelIdeal.Attn

end
-- ==== Proof.Online.lean ====
/- The running softmax on its own: a row of scores is read a block at a time, keeping the largest score so far, the sum
   of the exponentials relative to it, and the sum of the values weighted by those exponentials. -/
module

public import Idealize.ShloMosaic.Lib.IdealHost
public import Idealize.ShloMosaic.PureOps.Ideal
public import Mathlib.Data.EReal.Operations
public import Mathlib.Data.EReal.Inv

@[expose] public section

noncomputable section

namespace Cert.Online

open Idealize.ShloMosaic

/-- The largest of the first `n` scores. -/
def mx (s : ℕ → EReal) (n : ℕ) : EReal := (Finset.range n).sup s

/-- The first `n` values, weighted by the exponentials of their scores relative to the largest. -/
def num (s v : ℕ → EReal) (n : ℕ) : EReal := ∑ j ∈ Finset.range n, Ideal.exp (s j - mx s n) * v j

/-- The sum of the weights. -/
def den (s : ℕ → EReal) (n : ℕ) : EReal := ∑ j ∈ Finset.range n, Ideal.exp (s j - mx s n)

/-- A row of scores: none is infinite from above, and the first is not masked. -/
structure Row (s : ℕ → EReal) : Prop where
  ne_top : ∀ j, s j ≠ ⊤
  first : s 0 ≠ ⊥

/-- The weights' sum is the weighted sum of ones. -/
theorem den_eq (s : ℕ → EReal) (n : ℕ) : den s n = num s (fun _ => 1) n := by simp [den, num]

/-- Before any score. -/
theorem mx_zero (s : ℕ → EReal) : mx s 0 = ⊥ := by simp [mx]
theorem num_zero (s v : ℕ → EReal) : num s v 0 = 0 := by simp [num]
theorem den_zero (s : ℕ → EReal) : den s 0 = 0 := by simp [den]

/-- Exponentials are not negative. -/
theorem exp_nonneg (x : EReal) : 0 ≤ Ideal.exp x := by
  induction x with
  | bot => exact le_refl _
  | top => exact le_top
  | coe r => exact EReal.coe_nonneg.mpr (Real.exp_pos r).le

/-- The exponential of what is not infinite from above is not infinite. -/
theorem exp_ne_top {x : EReal} (h : x ≠ ⊤) : Ideal.exp x ≠ ⊤ := by
  induction x with
  | bot => exact EReal.zero_ne_top
  | top => exact absurd rfl h
  | coe r => exact EReal.coe_ne_top _

/-- Rescaling: weights relative to one maximum become weights relative to another. -/
theorem exp_mul_exp {x m m' : EReal} (hx : x ≠ ⊤) (hm : m ≠ ⊤) (hm0 : m ≠ ⊥) (hm' : m' ≠ ⊤) (hm0' : m' ≠ ⊥) :
    Ideal.exp (m - m') * Ideal.exp (x - m) = Ideal.exp (x - m') := by
  lift m to ℝ using ⟨hm, hm0⟩
  lift m' to ℝ using ⟨hm', hm0'⟩
  induction x with
  | bot =>
    rw [EReal.bot_sub, EReal.bot_sub]
    exact mul_zero _
  | top => exact absurd rfl hx
  | coe r =>
    rw [← EReal.coe_sub, ← EReal.coe_sub, ← EReal.coe_sub]
    show (Real.exp _ : EReal) * (Real.exp _ : EReal) = (Real.exp _ : EReal)
    rw [← EReal.coe_mul, ← Real.exp_add]
    congr 2; ring

/-- The largest score is not infinite. -/
theorem Row.mx_ne_top {s : ℕ → EReal} (h : Row s) (n : ℕ) : mx s n ≠ ⊤ := by
  refine ne_of_lt ((Finset.sup_lt_iff (bot_lt_top)).mpr fun j _ => ?_)
  exact lt_top_iff_ne_top.mpr (h.ne_top j)

/-- Nor is it masked, once there is a score. -/
theorem Row.mx_ne_bot {s : ℕ → EReal} (h : Row s) {n : ℕ} (hn : 0 < n) : mx s n ≠ ⊥ := fun e =>
  h.first (le_bot_iff.mp (e ▸ Finset.le_sup (f := s) (Finset.mem_range.mpr hn)))

/-- A finite factor that is not negative goes into a sum. -/
theorem mul_sum_real {ι : Type} (S : Finset ι) (a : EReal) (ha : 0 ≤ a) (ha' : a ≠ ⊤) (f : ι → EReal) :
    a * ∑ j ∈ S, f j = ∑ j ∈ S, a * f j := by
  classical
  induction S using Finset.induction_on with
  | empty => simp
  | insert j S hj ih => rw [Finset.sum_insert hj, Finset.sum_insert hj, EReal.left_distrib_of_nonneg_of_ne_top ha ha', ih]

/-- A block more: the largest score. -/
theorem mx_step (s : ℕ → EReal) (n b : ℕ) :
    max (mx s n) (Finset.univ.fold max ⊥ fun c : Fin b => s (n + c.val)) = mx s (n + b) := by
  have e : (Finset.univ.fold max ⊥ fun c : Fin b => s (n + c.val)) = Finset.univ.sup fun c : Fin b => s (n + c.val) := rfl
  rw [e]
  refine le_antisymm (max_le (Finset.sup_mono (Finset.range_mono (by omega))) (Finset.sup_le fun c _ => ?_)) (Finset.sup_le fun j hj => ?_)
  · exact Finset.le_sup (f := s) (Finset.mem_range.mpr (by have := c.isLt; omega))
  · have hj := Finset.mem_range.mp hj
    by_cases h : j < n
    · exact le_max_of_le_left (Finset.le_sup (f := s) (Finset.mem_range.mpr h))
    · refine le_max_of_le_right ?_
      have := Finset.le_sup (f := fun c : Fin b => s (n + c.val)) (Finset.mem_univ ⟨j - n, by omega⟩)
      simpa [Nat.add_sub_cancel' (Nat.le_of_not_lt h)] using this

/-- A block more: the weighted sum. -/
theorem Row.num_step {s : ℕ → EReal} (h : Row s) (v : ℕ → EReal) (n : ℕ) {b : ℕ} (hb : 0 < b) :
    Ideal.exp (mx s n - mx s (n + b)) * num s v n + (∑ c : Fin b, Ideal.exp (s (n + c.val) - mx s (n + b)) * v (n + c.val)) = num s v (n + b) := by
  have e : Ideal.exp (mx s n - mx s (n + b)) * num s v n = ∑ j ∈ Finset.range n, Ideal.exp (s j - mx s (n + b)) * v j := by
    rcases Nat.eq_zero_or_pos n with rfl | hn
    · simp [num]
    · have hm := h.mx_ne_top n; have hm0 := h.mx_ne_bot hn
      have hm' := h.mx_ne_top (n + b); have hm0' := h.mx_ne_bot (n := n + b) (by omega)
      rw [num, mul_sum_real _ _ (exp_nonneg _) (exp_ne_top (by
        lift mx s n to ℝ using ⟨hm, hm0⟩ with r; lift mx s (n + b) to ℝ using ⟨hm', hm0'⟩ with r'
        rw [← EReal.coe_sub]; exact EReal.coe_ne_top _))]
      refine Finset.sum_congr rfl fun j _ => ?_
      rw [← mul_assoc, exp_mul_exp (h.ne_top j) hm hm0 hm' hm0']
  rw [e, num, Finset.sum_range_add, Finset.sum_range]
  congr 1
  exact (Finset.sum_range (fun c => Ideal.exp (s (n + c) - mx s (n + b)) * v (n + c))).symm

/-- A block more: the sum of the weights. -/
theorem Row.den_step {s : ℕ → EReal} (h : Row s) (n : ℕ) {b : ℕ} (hb : 0 < b) :
    Ideal.exp (mx s n - mx s (n + b)) * den s n + (∑ c : Fin b, Ideal.exp (s (n + c.val) - mx s (n + b))) = den s (n + b) := by
  have := h.num_step (fun _ => 1) n hb
  simpa [den_eq] using this

/-- Masked scores change nothing: the largest score. -/
theorem mx_masked (s : ℕ → EReal) {n n' : ℕ} (hn : n ≤ n') (hs : ∀ j, n ≤ j → s j = ⊥) : mx s n' = mx s n := by
  refine le_antisymm (Finset.sup_le fun j hj => ?_) (Finset.sup_mono (Finset.range_mono hn))
  by_cases h : j < n
  · exact Finset.le_sup (f := s) (Finset.mem_range.mpr h)
  · rw [hs j (Nat.le_of_not_lt h)]; exact bot_le

/-- Masked scores change nothing: the weighted sum. -/
theorem num_masked (s v : ℕ → EReal) {n n' : ℕ} (hn : n ≤ n') (hs : ∀ j, n ≤ j → s j = ⊥) : num s v n' = num s v n := by
  unfold num
  rw [mx_masked s hn hs]
  symm
  refine Finset.sum_subset (Finset.range_mono hn) fun j _ hj => ?_
  rw [hs j (by simpa using hj), EReal.bot_sub]
  exact zero_mul _

/-- Masked scores change nothing: the sum of the weights. -/
theorem den_masked (s : ℕ → EReal) {n n' : ℕ} (hn : n ≤ n') (hs : ∀ j, n ≤ j → s j = ⊥) : den s n' = den s n := by
  rw [den_eq, den_eq, num_masked s _ hn hs]

/-- A shift of every score shifts the largest. -/
theorem mx_shift (s : ℕ → EReal) (d : ℝ) (n : ℕ) : mx (fun j => s j + d) n = mx s n + d := by
  induction n with
  | zero => rw [mx_zero, mx_zero]; rfl
  | succ n ih =>
    have e : ∀ s : ℕ → EReal, mx s (n + 1) = max (s n) (mx s n) := fun s => by
      unfold mx; rw [Finset.range_add_one, Finset.sup_insert]
    rw [e, e, ih, max_add_add_right]

/-- A shift of both leaves a difference. -/
theorem sub_shift (x : EReal) {m : EReal} (hm : m ≠ ⊤) (hm0 : m ≠ ⊥) (d : ℝ) : (x + d) - (m + d) = x - m := by
  lift m to ℝ using ⟨hm, hm0⟩
  induction x with
  | bot => rfl
  | top => rfl
  | coe r => norm_cast; ring

/-- A shift of every score leaves the weighted sum. -/
theorem Row.num_shift {s : ℕ → EReal} (h : Row s) (v : ℕ → EReal) (d : ℝ) (n : ℕ) : num (fun j => s j + d) v n = num s v n := by
  rcases Nat.eq_zero_or_pos n with rfl | hn
  · simp [num]
  · unfold num
    rw [mx_shift]
    exact Finset.sum_congr rfl fun j _ => by rw [sub_shift _ (h.mx_ne_top n) (h.mx_ne_bot hn)]

/-- The sum of the weights is a positive real. -/
theorem Row.den_pos {s : ℕ → EReal} (h : Row s) {n : ℕ} (hn : 0 < n) : 0 < den s n := by
  have hm := h.mx_ne_top n; have hm0 := h.mx_ne_bot hn
  refine lt_of_lt_of_le ?_ (Finset.single_le_sum (f := fun j => Ideal.exp (s j - mx s n)) (fun j _ => exp_nonneg _) (Finset.mem_range.mpr hn))
  have h0 := h.first; have h1 := h.ne_top 0
  show 0 < Ideal.exp (s 0 - mx s n)
  lift mx s n to ℝ using ⟨hm, hm0⟩ with r
  lift s 0 to ℝ using ⟨h1, h0⟩ with r'
  rw [← EReal.coe_sub]
  exact EReal.coe_pos.mpr (Real.exp_pos _)

/-- It is not infinite. -/
theorem Row.den_ne_top {s : ℕ → EReal} (h : Row s) {n : ℕ} (hn : 0 < n) : den s n ≠ ⊤ := by
  have hm := h.mx_ne_top n; have hm0 := h.mx_ne_bot hn
  unfold den
  generalize mx s n = m at hm hm0 ⊢
  lift m to ℝ using ⟨hm, hm0⟩
  refine Finset.sum_induction _ (fun x : EReal => x ≠ ⊤) (fun a b ha hb => EReal.add_ne_top ha hb) EReal.zero_ne_top fun j _ => exp_ne_top ?_
  have := h.ne_top j
  induction hs : s j with
  | bot => simp
  | top => exact absurd hs this
  | coe r => rw [← EReal.coe_sub]; exact EReal.coe_ne_top _

/-- The division by the sum of the weights goes into the weighted sum. -/
theorem Row.div_num {s : ℕ → EReal} (h : Row s) (v : ℕ → EReal) {n : ℕ} (hn : 0 < n) :
    Ideal.div (num s v n) (den s n) = ∑ j ∈ Finset.range n, v j * Ideal.div (Ideal.exp (s j - mx s n)) (den s n) := by
  have hp := h.den_pos hn; have ht := h.den_ne_top hn
  have h0 : den s n ≠ 0 := ne_of_gt hp
  unfold Ideal.div
  simp only [if_neg h0]
  have hd := hp.le
  unfold num
  generalize den s n = D at hp ht h0 hd
  rw [mul_comm, mul_sum_real _ _ (EReal.inv_nonneg_of_nonneg hd) (by
    lift D to ℝ using ⟨ht, ne_of_gt (lt_trans EReal.bot_lt_zero hp)⟩
    rw [← EReal.coe_inv]; exact EReal.coe_ne_top _)]
  refine Finset.sum_congr rfl fun j _ => ?_
  rw [mul_comm (D⁻¹), mul_assoc, mul_left_comm]

end Cert.Online
-- ==== Proof.Payload.lean ====
/- One step of the idealized kernel, value by value: it takes the running maximum, normalizer and weighted sums of the first `n`
   scores of each row to those of the first `n + 512`. -/
module

public import proofs.«01_k».proof.Proof.StepKernelIdeal
public import proofs.«01_k».proof.Proof.Online
public import Idealize.ShloMosaic.Lib.Pointwise
public import Idealize.ShloMosaic.Lib.Tactic.WordOmega

@[expose] public section

set_option maxRecDepth 16384

noncomputable section

namespace Cert.KernelIdeal.Attn

open Cert.KernelIdeal Cert.KernelIdeal.Gen Cert.Online
open Idealize.ShloMosaic Idealize.ShloMosaic.Pointwise

/-- The factor the scores are scaled by. -/
def scale : EReal := Ideal.ofBits .f32 0x3DB504F3#32

section Payloads

variable (x0 x1 x2 : S512x128.Idx → Elt Ideal .f32) (x3 x4 : S1x1x512.Idx → Elt Ideal .f32) (S : State)

/-- The score of a query and a key of the blocks. -/
def raw (i c : Fin 512) : EReal :=
  (∑ d : Fin 128, x0 (ix2 i d) * x1 (ix2 c d)) * scale + (x3 (ix3 (0 : Fin 1) (0 : Fin 1) (0 : Fin 512)) - x4 (ix3 (0 : Fin 1) (0 : Fin 1) c))

/-- The same with the keys after the query masked. -/
def masked (i c : Fin 512) : EReal := if c.val ≤ i.val then raw x0 x1 x3 x4 i c else ⊥

theorem ninf : Ideal.ofBits .f32 0xFF800000#32 = ⊥ := by simp [Ideal.ofBits, Ideal.ieee]

theorem pay7_at (i c : Fin 512) : k0_pay7 (F := Ideal) x0 x1 x3 x4 (ix2 i c) = raw x0 x1 x3 x4 i c := by
  pointwise [k0_pay7, raw]
  rfl

/-- The bit that keeps a key: it is not after the query. -/
theorem mask_bit (r : ℕ) (i c : Fin 512) (hr : r < 16) :
    IntOp.cmpi CmpIPredicate.sge (IntOp.addi (Scalar.muli (BitVec.ofNat 32 r) 512#32) (BitVec.ofNat 32 i.val))
      (IntOp.addi (Scalar.muli (BitVec.ofNat 32 r) 512#32) (BitVec.ofNat 32 c.val)) = if c.val ≤ i.val then 1#1 else 0#1 := by
  have hi := i.isLt
  have hc := c.isLt
  have h : ∀ a : ℕ, a < 512 → IntOp.addi (Scalar.muli (BitVec.ofNat 32 r) 512#32) (BitVec.ofNat 32 a) = BitVec.ofNat 32 (r * 512 + a) := fun a ha => by
    apply BitVec.eq_of_toNat_eq
    simp [IntOp.addi, IntOp.muli, Scalar.muli]
  rw [h _ hi, h _ hc]
  split <;> word_omega

theorem pay14_at (r : ℕ) (i c : Fin 512) (hr : r < 16) :
    k0_pay14 (F := Ideal) (BitVec.ofNat 32 r) (BitVec.ofNat 32 r) x0 x1 x3 x4 (ix2 i c) = masked x0 x1 x3 x4 i c := by
  pointwise [k0_pay14, masked, raw]
  rw [mask_bit r i c hr]
  by_cases h : c.val ≤ i.val
  · rw [if_pos h, if_pos h]; rfl
  · rw [if_neg h, if_neg h]; exact IdealRules.named_const.ideal_named_scalar _ _ _ _ rfl

theorem pay8_at (i : Fin 512) : k0_pay8 (F := Ideal) x0 x1 x3 x4 S.m (ix2 i (0 : Fin 1)) = max (S.m (ix2 i (0 : Fin 1))) (Finset.univ.fold max ⊥ fun c : Fin 512 => raw x0 x1 x3 x4 i c) := by
  simp only [← pay7_at, ← ninf]
  pointwise [k0_pay8]

theorem pay15_at (q k : BitVec 32) (i : Fin 512) : k0_pay15 (F := Ideal) q k x0 x1 x3 x4 S.m (ix2 i (0 : Fin 1)) = max (S.m (ix2 i (0 : Fin 1))) (Finset.univ.fold max ⊥ fun c : Fin 512 => k0_pay14 (F := Ideal) q k x0 x1 x3 x4 (ix2 i c)) := by
  simp only [← ninf]
  pointwise [k0_pay15]

theorem below_m (i : Fin 512) : (below x0 x1 x2 x3 x4 S).m (ix2 i (0 : Fin 1)) = k0_pay8 (F := Ideal) x0 x1 x3 x4 S.m (ix2 i (0 : Fin 1)) := by
  unfold below
  pointwise [k0_pay2]

theorem below_l (i : Fin 512) : (below x0 x1 x2 x3 x4 S).l (ix2 i (0 : Fin 1))
    = Ideal.exp (S.m (ix2 i (0 : Fin 1)) - k0_pay8 (F := Ideal) x0 x1 x3 x4 S.m (ix2 i (0 : Fin 1))) * S.l (ix2 i (0 : Fin 1))
      + ∑ c : Fin 512, Ideal.exp (k0_pay7 (F := Ideal) x0 x1 x3 x4 (ix2 i c) - k0_pay8 (F := Ideal) x0 x1 x3 x4 S.m (ix2 i (0 : Fin 1))) := by
  unfold below
  pointwise [k0_pay11, k0_pay9, k0_pay10]

theorem below_a (i : Fin 512) (d : Fin 128) : (below x0 x1 x2 x3 x4 S).a (ix2 i d)
    = Ideal.exp (S.m (ix2 i (0 : Fin 1)) - k0_pay8 (F := Ideal) x0 x1 x3 x4 S.m (ix2 i (0 : Fin 1))) * S.a (ix2 i d)
      + ∑ c : Fin 512, Ideal.exp (k0_pay7 (F := Ideal) x0 x1 x3 x4 (ix2 i c) - k0_pay8 (F := Ideal) x0 x1 x3 x4 S.m (ix2 i (0 : Fin 1))) * x2 (ix2 c d) := by
  unfold below
  pointwise [k0_pay1, k0_pay12, k0_pay13, k0_pay9, k0_pay10]

theorem diag_m (q k : BitVec 32) (i : Fin 512) : (diag q k x0 x1 x2 x3 x4 S).m (ix2 i (0 : Fin 1)) = k0_pay15 (F := Ideal) q k x0 x1 x3 x4 S.m (ix2 i (0 : Fin 1)) := by
  unfold diag
  pointwise [k0_pay5]

theorem diag_l (q k : BitVec 32) (i : Fin 512) : (diag q k x0 x1 x2 x3 x4 S).l (ix2 i (0 : Fin 1))
    = Ideal.exp (S.m (ix2 i (0 : Fin 1)) - k0_pay15 (F := Ideal) q k x0 x1 x3 x4 S.m (ix2 i (0 : Fin 1))) * S.l (ix2 i (0 : Fin 1))
      + ∑ c : Fin 512, Ideal.exp (k0_pay14 (F := Ideal) q k x0 x1 x3 x4 (ix2 i c) - k0_pay15 (F := Ideal) q k x0 x1 x3 x4 S.m (ix2 i (0 : Fin 1))) := by
  unfold diag
  pointwise [k0_pay3, k0_pay18, k0_pay19, k0_pay16, k0_pay17]

theorem diag_a (q k : BitVec 32) (i : Fin 512) (d : Fin 128) : (diag q k x0 x1 x2 x3 x4 S).a (ix2 i d)
    = Ideal.exp (S.m (ix2 i (0 : Fin 1)) - k0_pay15 (F := Ideal) q k x0 x1 x3 x4 S.m (ix2 i (0 : Fin 1))) * S.a (ix2 i d)
      + ∑ c : Fin 512, Ideal.exp (k0_pay14 (F := Ideal) q k x0 x1 x3 x4 (ix2 i c) - k0_pay15 (F := Ideal) q k x0 x1 x3 x4 S.m (ix2 i (0 : Fin 1))) * x2 (ix2 c d) := by
  unfold diag
  pointwise [k0_pay4, k0_pay16, k0_pay17]

theorem out_at (i : Fin 512) (d : Fin 128) : out S (ix2 i d) = Ideal.div (S.a (ix2 i d)) (S.l (ix2 i (0 : Fin 1))) := by
  unfold out
  pointwise [k0_pay6]

theorem start_m (i : Fin 512) : start.m (ix2 i (0 : Fin 1)) = ⊥ := by
  unfold start
  pointwise [k0_pay20]
  exact IdealRules.named_const.ideal_named_scalar _ _ _ _ rfl

theorem start_l (i : Fin 512) : start.l (ix2 i (0 : Fin 1)) = 0 := by
  unfold start
  pointwise [k0_pay21]

theorem start_a (i : Fin 512) (d : Fin 128) : start.a (ix2 i d) = 0 := by
  unfold start
  pointwise [k0_pay22]

end Payloads

/-! ## The scratch buffers in closed form -/

/-- The running maximum, normalizer and weighted sums of the first `n` scores of each row. -/
def St (s : Fin 512 → ℕ → EReal) (v : Fin 128 → ℕ → EReal) (n : ℕ) : State :=
  ⟨fun j => mx (s (j 0)) n, fun j => den (s (j 0)) n, fun j => num (s (j 0)) (v (j 1)) n⟩

/-- Two contents of the scratch buffers that agree at every index are one. -/
theorem state_ext {S T : State} (hm : ∀ i : Fin 512, S.m (ix2 i (0 : Fin 1)) = T.m (ix2 i (0 : Fin 1))) (hl : ∀ i : Fin 512, S.l (ix2 i (0 : Fin 1)) = T.l (ix2 i (0 : Fin 1)))
    (ha : ∀ (i : Fin 512) (d : Fin 128), S.a (ix2 i d) = T.a (ix2 i d)) : S = T := by
  apply State.ext
  · funext j
    rw [eq_ix2 j, show j 1 = (0 : Fin 1) from Subsingleton.elim (α := Fin 1) _ _]; exact hm (j 0)
  · funext j
    rw [eq_ix2 j, show j 1 = (0 : Fin 1) from Subsingleton.elim (α := Fin 1) _ _]; exact hl (j 0)
  · funext j
    rw [eq_ix2 j]; exact ha (j 0) (j 1)

/-- Before the first key. -/
theorem start_eq (s : Fin 512 → ℕ → EReal) (v : Fin 128 → ℕ → EReal) : start = St s v 0 :=
  state_ext (fun i => (start_m i).trans (mx_zero (s i)).symm) (fun i => (start_l i).trans (den_zero (s i)).symm) (fun i d => (start_a i d).trans (num_zero (s i) (v d)).symm)

section Step

variable (s : Fin 512 → ℕ → EReal) (v : Fin 128 → ℕ → EReal) (n : ℕ) (hs : ∀ i, Row (s i))
  (x0 x1 x2 : S512x128.Idx → Elt Ideal .f32) (x3 x4 : S1x1x512.Idx → Elt Ideal .f32) (hv : ∀ (c : Fin 512) (d : Fin 128), x2 (ix2 c d) = v d (n + c.val))

include hs hv

/-- A step below the diagonal goes on by a block of keys. -/
theorem below_eq (hx : ∀ i c : Fin 512, raw x0 x1 x3 x4 i c = s i (n + c.val)) : below x0 x1 x2 x3 x4 (St s v n) = St s v (n + 512) := by
  have hM : ∀ i : Fin 512, k0_pay8 (F := Ideal) x0 x1 x3 x4 (St s v n).m (ix2 i (0 : Fin 1)) = mx (s i) (n + 512) := fun i => by
    rw [pay8_at]; simp only [hx]; exact mx_step (s i) n 512
  refine state_ext (fun i => ?_) (fun i => ?_) (fun i d => ?_)
  · rw [below_m, hM]; rfl
  · rw [below_l, hM]; simp only [pay7_at, hx]; exact (hs i).den_step n (by decide)
  · rw [below_a, hM]; simp only [pay7_at, hx, hv]; exact (hs i).num_step (v d) n (by decide)

/-- A step on the diagonal goes on by a block of keys, those after the query masked. -/
theorem diag_eq (r : ℕ) (hr : r < 16) (hx : ∀ i c : Fin 512, masked x0 x1 x3 x4 i c = s i (n + c.val)) :
    diag (BitVec.ofNat 32 r) (BitVec.ofNat 32 r) x0 x1 x2 x3 x4 (St s v n) = St s v (n + 512) := by
  have hM : ∀ i : Fin 512, k0_pay15 (F := Ideal) (BitVec.ofNat 32 r) (BitVec.ofNat 32 r) x0 x1 x3 x4 (St s v n).m (ix2 i (0 : Fin 1)) = mx (s i) (n + 512) := fun i => by
    rw [pay15_at]; simp only [pay14_at _ _ _ _ _ _ _ hr, hx]; exact mx_step (s i) n 512
  refine state_ext (fun i => ?_) (fun i => ?_) (fun i d => ?_)
  · rw [diag_m, hM]; rfl
  · rw [diag_l, hM]; simp only [pay14_at _ _ _ _ _ _ _ hr, hx]; exact (hs i).den_step n (by decide)
  · rw [diag_a, hM]; simp only [pay14_at _ _ _ _ _ _ _ hr, hx, hv]; exact (hs i).num_step (v d) n (by decide)

end Step

end Cert.KernelIdeal.Attn

end
-- ==== Proof.Closed.lean ====
/- The idealized kernel's result in closed form: at a query it is the quotient of the weighted sum of the values and of the sum
   of the weights, over the keys up to the end of the query's block, those after the query masked. -/
module

public import proofs.«01_k».proof.Proof.RunKernelIdeal
public import proofs.«01_k».proof.Proof.Payload
public import Idealize.ShloMosaic.Lib.Pipeline.ValueKit

@[expose] public section

set_option maxRecDepth 16384

noncomputable section

namespace Cert.KernelIdeal.Attn

open Cert.KernelIdeal Cert.KernelIdeal.Gen Cert.Online
open Idealize.ShloMosaic Idealize.ShloMosaic.Pointwise Idealize.ShloMosaic.TcCoe

/-! ## Finite extended reals -/

/-- A finite extended real. -/
def Fine (x : EReal) : Prop := ∃ r : ℝ, x = r

theorem Fine.add {x y : EReal} : Fine x → Fine y → Fine (x + y) := fun ⟨a, ha⟩ ⟨b, hb⟩ => ⟨a + b, by rw [ha, hb, EReal.coe_add]⟩
theorem Fine.sub {x y : EReal} : Fine x → Fine y → Fine (x - y) := fun ⟨a, ha⟩ ⟨b, hb⟩ => ⟨a - b, by rw [ha, hb, EReal.coe_sub]⟩
theorem Fine.mul {x y : EReal} : Fine x → Fine y → Fine (x * y) := fun ⟨a, ha⟩ ⟨b, hb⟩ => ⟨a * b, by rw [ha, hb, EReal.coe_mul]⟩
theorem Fine.sum {ι : Type} (S : Finset ι) (f : ι → EReal) (h : ∀ i, Fine (f i)) : Fine (∑ i ∈ S, f i) := by
  classical
  induction S using Finset.induction_on with
  | empty => exact ⟨0, by simp⟩
  | insert a S ha ih => rw [Finset.sum_insert ha]; exact (h a).add ih
theorem Fine.ne_top {x : EReal} : Fine x → x ≠ ⊤ := fun ⟨a, ha⟩ => ha ▸ EReal.coe_ne_top a
theorem Fine.ne_bot {x : EReal} : Fine x → x ≠ ⊥ := fun ⟨a, ha⟩ => ha ▸ EReal.coe_ne_bot a
theorem Fine.of_abs_lt {x : EReal} (h : max x (-x) < ⊤) : Fine x := by
  induction x using EReal.rec with
  | bot => simp at h
  | coe r => exact ⟨r, rfl⟩
  | top => simp at h
theorem fine_scale : Fine scale := ⟨_, (by simp [scale, Ideal.ofBits, Ideal.ieee, -EReal.coe_mul]; rfl)⟩

/-! ## The scores over the arrays -/

/-- An entry of the mixed projection, of the gates' running sums. -/
def zAt (Z : S8192x4608.Idx → EReal) (R C : ℕ) : EReal := Z (ix2 (Fin.ofNat 8192 R) (Fin.ofNat 4608 C))
def fAt (Fr : S4x1x8192.Idx → EReal) (h J : ℕ) : EReal := Fr (ix3 (Fin.ofNat 4 h) (0 : Fin 1) (Fin.ofNat 8192 J))

variable (Z : S8192x4608.Idx → EReal) (Fr : S4x1x8192.Idx → EReal)

/-- A query times a key, scaled. -/
def dotAt (h I j : ℕ) : EReal := (∑ d : Fin 128, zAt Z I (128 * (24 + h) + d.val) * zAt Z j (128 * (28 + h) + d.val)) * scale
/-- A row of scores as the kernel takes it: the bias is counted from the first row of the query's block. -/
def score (h r i j : ℕ) : EReal := if j ≤ 512 * r + i then dotAt Z h (512 * r + i) j + (fAt Fr h (512 * r) - fAt Fr h j) else ⊥
/-- A column of values. -/
def valAt (h d j : ℕ) : EReal := zAt Z j (128 * (32 + h) + d)

/-- The queries, the keys and the gates' running sums are finite. -/
structure Finite : Prop where
  qk : ∀ R C : ℕ, 3072 ≤ C → C < 4096 → Fine (zAt Z R C)
  gate : ∀ h J : ℕ, Fine (fAt Fr h J)

variable {Z Fr} in
theorem Finite.dot (H : Finite Z Fr) {h : ℕ} (hh : h < 4) (I j : ℕ) : Fine (dotAt Z h I j) :=
  (Fine.sum _ _ fun d => (H.qk _ _ (by omega) (by have := d.isLt; omega)).mul (H.qk _ _ (by omega) (by have := d.isLt; omega))).mul fine_scale

variable {Z Fr} in
/-- A row of scores of finite arguments: no score is plus infinity, the first is finite. -/
theorem Finite.row (H : Finite Z Fr) {h : ℕ} (hh : h < 4) (r i : ℕ) : Row (score Z Fr h r i) where
  ne_top j := by
    unfold score
    split
    · exact ((H.dot hh _ _).add ((H.gate _ _).sub (H.gate _ _))).ne_top
    · exact bot_ne_top
  first := by
    unfold score
    rw [if_pos (Nat.zero_le _)]
    exact ((H.dot hh _ _).add ((H.gate _ _).sub (H.gate _ _))).ne_bot

/-! ## The blocks as parts of the arrays -/

variable (m : (ℓ : Loc nD τ sig) → Buf (Elt Ideal) ℓ) (c : Dev nD)

theorem iblk0_at (t : Fin cfgA.N) (i : Fin 512) (d : Fin 128) :
    iblk m c 0 t (ix2 i d) = zAt (m ((c.tc : Thread nD τ).loc main_arg0)) (512 * rowOf (t.val % 136) + i.val) (128 * (24 + t.val / 136) + d.val) := by
  unfold iblk zAt
  rw [show V m c (Pipeline.arrRef spec0 0) = m ((c.tc : Thread nD τ).loc main_arg0) from V_arg0 m c]
  blk_simp
  congr 1
  have hx : (cfgA.win (0 : Fin 6)).index t = ![rowOf (t.val % 136), 24 + t.val / 136] := by
    rw [← crd_head t, ← crd_step t]; exact at_0 (crd t)
  have hr := row_lt (t.val % 136)
  have ht : t.val < 544 := N_0 ▸ t.isLt
  funext a
  fin_cases a
  · apply Fin.ext
    refine (Pipeline.Window.rect_emb_val (cfgA.win (0 : Fin 6)) t (ix2 i d) 0 rfl).trans ?_
    rw [hx]
    show rowOf (t.val % 136) * 512 + i.val = (512 * rowOf (t.val % 136) + i.val) % 8192
    omega
  · apply Fin.ext
    refine (Pipeline.Window.rect_emb_val (cfgA.win (0 : Fin 6)) t (ix2 i d) 1 rfl).trans ?_
    rw [hx]
    show (24 + t.val / 136) * 128 + d.val = (128 * (24 + t.val / 136) + d.val) % 4608
    omega

theorem iblk1_at (t : Fin cfgA.N) (i : Fin 512) (d : Fin 128) :
    iblk m c 1 t (ix2 i d) = zAt (m ((c.tc : Thread nD τ).loc main_arg0)) (512 * colOf (t.val % 136) + i.val) (128 * (28 + t.val / 136) + d.val) := by
  unfold iblk zAt
  rw [show V m c (Pipeline.arrRef spec0 1) = m ((c.tc : Thread nD τ).loc main_arg0) from V_arg0 m c]
  blk_simp
  congr 1
  have hx : (cfgA.win (1 : Fin 6)).index t = ![colOf (t.val % 136), 28 + t.val / 136] := by
    rw [← crd_head t, ← crd_step t]; exact at_1 (crd t)
  have hr := col_lt (t.val % 136)
  have ht : t.val < 544 := N_0 ▸ t.isLt
  funext a
  fin_cases a
  · apply Fin.ext
    refine (Pipeline.Window.rect_emb_val (cfgA.win (1 : Fin 6)) t (ix2 i d) 0 rfl).trans ?_
    rw [hx]
    show colOf (t.val % 136) * 512 + i.val = (512 * colOf (t.val % 136) + i.val) % 8192
    omega
  · apply Fin.ext
    refine (Pipeline.Window.rect_emb_val (cfgA.win (1 : Fin 6)) t (ix2 i d) 1 rfl).trans ?_
    rw [hx]
    show (28 + t.val / 136) * 128 + d.val = (128 * (28 + t.val / 136) + d.val) % 4608
    omega

theorem iblk2_at (t : Fin cfgA.N) (i : Fin 512) (d : Fin 128) :
    iblk m c 2 t (ix2 i d) = zAt (m ((c.tc : Thread nD τ).loc main_arg0)) (512 * colOf (t.val % 136) + i.val) (128 * (32 + t.val / 136) + d.val) := by
  unfold iblk zAt
  rw [show V m c (Pipeline.arrRef spec0 2) = m ((c.tc : Thread nD τ).loc main_arg0) from V_arg0 m c]
  blk_simp
  congr 1
  have hx : (cfgA.win (2 : Fin 6)).index t = ![colOf (t.val % 136), 32 + t.val / 136] := by
    rw [← crd_head t, ← crd_step t]; exact at_2 (crd t)
  have hr := col_lt (t.val % 136)
  have ht : t.val < 544 := N_0 ▸ t.isLt
  funext a
  fin_cases a
  · apply Fin.ext
    refine (Pipeline.Window.rect_emb_val (cfgA.win (2 : Fin 6)) t (ix2 i d) 0 rfl).trans ?_
    rw [hx]
    show colOf (t.val % 136) * 512 + i.val = (512 * colOf (t.val % 136) + i.val) % 8192
    omega
  · apply Fin.ext
    refine (Pipeline.Window.rect_emb_val (cfgA.win (2 : Fin 6)) t (ix2 i d) 1 rfl).trans ?_
    rw [hx]
    show (32 + t.val / 136) * 128 + d.val = (128 * (32 + t.val / 136) + d.val) % 4608
    omega

theorem iblk3_at (t : Fin cfgA.N) (i : Fin 512) :
    iblk m c 3 t (ix3 (0 : Fin 1) (0 : Fin 1) i) = fAt (m ((c.tc : Thread nD τ).loc main_arg1)) (t.val / 136) (512 * rowOf (t.val % 136) + i.val) := by
  unfold iblk fAt
  rw [show V m c (Pipeline.arrRef spec0 3) = m ((c.tc : Thread nD τ).loc main_arg1) from V_arg1 m c]
  blk_simp
  congr 1
  have hx : (cfgA.win (3 : Fin 6)).index t = ![t.val / 136, 0, rowOf (t.val % 136)] := by
    rw [← crd_head t, ← crd_step t]; exact at_3 (crd t)
  have hr := row_lt (t.val % 136)
  have ht : t.val < 544 := N_0 ▸ t.isLt
  funext a
  fin_cases a
  · apply Fin.ext
    refine (Pipeline.Window.rect_emb_val (cfgA.win (3 : Fin 6)) t (ix3 (0 : Fin 1) (0 : Fin 1) i) 0 rfl).trans ?_
    rw [hx]
    show t.val / 136 * 1 + 0 = (t.val / 136) % 4
    omega
  · apply Fin.ext
    refine (Pipeline.Window.rect_emb_val (cfgA.win (3 : Fin 6)) t (ix3 (0 : Fin 1) (0 : Fin 1) i) 1 rfl).trans ?_
    rw [hx]
    rfl
  · apply Fin.ext
    refine (Pipeline.Window.rect_emb_val (cfgA.win (3 : Fin 6)) t (ix3 (0 : Fin 1) (0 : Fin 1) i) 2 rfl).trans ?_
    rw [hx]
    show rowOf (t.val % 136) * 512 + i.val = (512 * rowOf (t.val % 136) + i.val) % 8192
    omega

theorem iblk4_at (t : Fin cfgA.N) (i : Fin 512) :
    iblk m c 4 t (ix3 (0 : Fin 1) (0 : Fin 1) i) = fAt (m ((c.tc : Thread nD τ).loc main_arg1)) (t.val / 136) (512 * colOf (t.val % 136) + i.val) := by
  unfold iblk fAt
  rw [show V m c (Pipeline.arrRef spec0 4) = m ((c.tc : Thread nD τ).loc main_arg1) from V_arg1 m c]
  blk_simp
  congr 1
  have hx : (cfgA.win (4 : Fin 6)).index t = ![t.val / 136, 0, colOf (t.val % 136)] := by
    rw [← crd_head t, ← crd_step t]; exact at_4 (crd t)
  have hr := col_lt (t.val % 136)
  have ht : t.val < 544 := N_0 ▸ t.isLt
  funext a
  fin_cases a
  · apply Fin.ext
    refine (Pipeline.Window.rect_emb_val (cfgA.win (4 : Fin 6)) t (ix3 (0 : Fin 1) (0 : Fin 1) i) 0 rfl).trans ?_
    rw [hx]
    show t.val / 136 * 1 + 0 = (t.val / 136) % 4
    omega
  · apply Fin.ext
    refine (Pipeline.Window.rect_emb_val (cfgA.win (4 : Fin 6)) t (ix3 (0 : Fin 1) (0 : Fin 1) i) 1 rfl).trans ?_
    rw [hx]
    rfl
  · apply Fin.ext
    refine (Pipeline.Window.rect_emb_val (cfgA.win (4 : Fin 6)) t (ix3 (0 : Fin 1) (0 : Fin 1) i) 2 rfl).trans ?_
    rw [hx]
    show colOf (t.val % 136) * 512 + i.val = (512 * colOf (t.val % 136) + i.val) % 8192
    omega

/-! ## The steps over the arrays -/

abbrev zOf : S8192x4608.Idx → EReal := m ((c.tc : Thread nD τ).loc main_arg0)
abbrev fOf : S4x1x8192.Idx → EReal := m ((c.tc : Thread nD τ).loc main_arg1)

/-- The scores of a point's blocks, before masking. -/
theorem raw_at (t : Fin cfgA.N) (i e : Fin 512) :
    raw (iblk m c 0 t) (iblk m c 1 t) (iblk m c 3 t) (iblk m c 4 t) i e
      = dotAt (zOf m c) (t.val / 136) (512 * rowOf (t.val % 136) + i.val) (512 * colOf (t.val % 136) + e.val)
        + (fAt (fOf m c) (t.val / 136) (512 * rowOf (t.val % 136)) - fAt (fOf m c) (t.val / 136) (512 * colOf (t.val % 136) + e.val)) := by
  unfold raw dotAt
  simp only [iblk0_at, iblk1_at, iblk3_at, iblk4_at]
  rfl

/-- The row scores and the values a point works on. -/
abbrev rowsAt (n : ℕ) : Fin 512 → ℕ → EReal := fun i => score (zOf m c) (fOf m c) (n / 136) (rowOf (n % 136)) i.val
abbrev valsAt (n : ℕ) : Fin 128 → ℕ → EReal := fun d => valAt (zOf m c) (n / 136) d.val

/-- One step, from the scores of the keys before its block to those up to its end. -/
theorem stepAt_closed (H : Finite (zOf m c) (fOf m c)) (t : Fin cfgA.N) (S : State)
    (hS : (if colOf (t.val % 136) = 0 then start else S) = St (rowsAt m c t.val) (valsAt m c t.val) (512 * colOf (t.val % 136))) :
    stepAt m c t S = St (rowsAt m c t.val) (valsAt m c t.val) (512 * colOf (t.val % 136) + 512) := by
  have ht : t.val < 544 := N_0 ▸ t.isLt
  have hs : ∀ i : Fin 512, Row (rowsAt m c t.val i) := fun i => H.row (by omega) _ _
  have hv : ∀ (e : Fin 512) (d : Fin 128), iblk m c 2 t (ix2 e d) = valsAt m c t.val d (512 * colOf (t.val % 136) + e.val) := fun e d => iblk2_at m c t e d
  have hrc : colOf (t.val % 136) ≤ rowOf (t.val % 136) := col_le_row ⟨t.val % 136, Nat.mod_lt _ (by decide)⟩
  unfold stepAt
  rw [hS]
  by_cases q1 : colOf (t.val % 136) = rowOf (t.val % 136)
  · rw [if_pos q1, q1]
    rw [q1] at hv
    refine diag_eq _ _ _ hs _ _ _ _ _ hv _ (row_lt _) fun i e => ?_
    unfold masked
    rw [raw_at, q1]
    unfold rowsAt score
    exact if_congr (by omega) rfl rfl
  · rw [if_neg q1]
    refine below_eq _ _ _ hs _ _ _ _ _ hv fun i e => ?_
    rw [raw_at]
    unfold rowsAt score
    have he := e.isLt
    rw [if_pos (by omega)]

/-- What the scratch buffers hold after a point. -/
theorem traj_closed (H : Finite (zOf m c) (fOf m c)) : ∀ n : ℕ, n < 544 →
    traj m c (n + 1) = St (rowsAt m c n) (valsAt m c n) (512 * colOf (n % 136) + 512)
  | 0, h => by
    have h0 : (0 : ℕ) < cfgA.N := lt_of_lt_of_eq (by decide) N_0.symm
    refine (traj_succ m c ⟨0, h0⟩).trans (stepAt_closed m c H ⟨0, h0⟩ _ ?_)
    show (if colOf (0 % 136) = 0 then start else _) = _
    rw [show 0 % 136 = 0 from rfl, if_pos col_zero, col_zero]
    exact start_eq _ _
  | n + 1, h => by
    have h1 : n + 1 < cfgA.N := lt_of_lt_of_eq h N_0.symm
    refine (traj_succ m c ⟨n + 1, h1⟩).trans (stepAt_closed m c H ⟨n + 1, h1⟩ _ ?_)
    show (if colOf ((n + 1) % 136) = 0 then start else traj m c (n + 1)) = St (rowsAt m c (n + 1)) (valsAt m c (n + 1)) (512 * colOf ((n + 1) % 136))
    by_cases q0 : colOf ((n + 1) % 136) = 0
    · rw [if_pos q0, q0]
      exact start_eq _ _
    · rw [if_neg q0, traj_closed H n (by omega)]
      have hp : n % 136 < 135 := by
        by_contra hp
        exact q0 (by rw [show (n + 1) % 136 = 0 by omega]; exact col_zero)
      have hm : (n + 1) % 136 = n % 136 + 1 := by omega
      have hd : (n + 1) / 136 = n / 136 := by omega
      have hn := next_eq ⟨n % 136, hp⟩ (by rw [hm] at q0; exact q0)
      unfold rowsAt valsAt
      rw [hd, hm, hn.1, hn.2]
      rfl

/-! ## The result -/

/-- The kernel's result at a query and a column. -/
def value (Z : S8192x4608.Idx → EReal) (Fr : S4x1x8192.Idx → EReal) (I C : ℕ) : EReal :=
  Ideal.div (num (score Z Fr (C / 128) (I / 512) (I % 512)) (valAt Z (C / 128) (C % 128)) (512 * (I / 512) + 512))
    (den (score Z Fr (C / 128) (I / 512) (I % 512)) (512 * (I / 512) + 512))

/-- What a point on the diagonal stores, in the array's coordinates. -/
theorem out_closed (n r : ℕ) (i : Fin 512) (d : Fin 128) :
    out (St (fun i : Fin 512 => score (zOf m c) (fOf m c) (n / 136) r i.val) (valsAt m c n) (512 * r + 512)) (ix2 i d)
      = value (zOf m c) (fOf m c) (r * 512 + i.val) (n / 136 * 128 + d.val) := by
  have hi := i.isLt
  have hd := d.isLt
  rw [out_at]
  unfold value
  rw [show (r * 512 + i.val) / 512 = r by omega, show (r * 512 + i.val) % 512 = i.val by omega,
    show (n / 136 * 128 + d.val) / 128 = n / 136 by omega, show (n / 136 * 128 + d.val) % 128 = d.val by omega]
  rfl

theorem result_eq (H : Finite (zOf m c) (fOf m c)) :
    (dats m 0 c).arrAt (5 : Fin 6) cfgA.N = fun j => value (zOf m c) (fOf m c) (j 0).val (j 1).val := by
  refine (dats m 0 c).arrAt_eq_of_covers (5 : Fin 6) _ (by decide +kernel) fun t hf y => ?_
  have hx : (cfgA.win (5 : Fin 6)).index t = ![rowOf (t.val % 136), t.val / 136] := by
    rw [← crd_head t, ← crd_step t]; exact at_5 (crd t)
  have ht : t.val < 544 := N_0 ▸ t.isLt
  have hq : colOf (t.val % 136) = rowOf (t.val % 136) := of_decide_eq_true ((flush_eq t).symm.trans hf)
  rw [after0_5, traj_closed m c H t.val ht, hq]
  blk_simp
  rw [hx]
  exact (congrArg _ (eq_ix2 (n0 := 512) (n1 := 128) y)).trans (out_closed m c t.val _ (y 0) (y 1))

end Cert.KernelIdeal.Attn

end
-- ==== Proof.RefValue.lean ====
/- The reference's result in closed form: softmax attention over the keys up to the query, the decay bias counted from the
   query itself. -/
module

public import proofs.«01_k».proof.Proof.Gen.ReferenceIdeal.Run
public import proofs.«01_k».proof.Proof.Closed
public import Idealize.ShloMosaic.Lib.Pointwise
public import Idealize.ShloMosaic.Lib.Tactic.WordOmega

@[expose] public section

set_option maxRecDepth 16384

noncomputable section

namespace Cert.ReferenceIdeal.Attn

open Cert.ReferenceIdeal Cert.ReferenceIdeal.Gen Cert.ReferenceIdeal.Value Cert.Online
open Cert.KernelIdeal.Attn (zAt fAt dotAt valAt scale)
open Idealize.ShloMosaic Idealize.ShloMosaic.Pointwise Idealize.ShloMosaic.TcCoe

section Stages

variable (Z : FVec Ideal S8192x4608 .f32) (Fr : FVec Ideal S4x1x8192 .f32) (S P : FVec Ideal S4x8192x8192 .f32) (M : FVec Ideal S4x8192 .f32)

/-! ## The reference's values, one after the other -/

/-- The queries, keys and values, head by head. -/
def qs : FVec Ideal S8192x4x128 .f32 := (shapeCast _ (extractStridedSlice S8192x512 ![0, 0] (extractStridedSlice S8192x1536 ![0, 3072] Z slices_S8192x4608_S8192x1536_0_3072) slices_S8192x1536_S8192x512_0_0) shapeCasts_S8192x512_S8192x4x128)
def ks : FVec Ideal S8192x4x128 .f32 := (shapeCast _ (extractStridedSlice S8192x512 ![0, 512] (extractStridedSlice S8192x1536 ![0, 3072] Z slices_S8192x4608_S8192x1536_0_3072) slices_S8192x1536_S8192x512_0_512) shapeCasts_S8192x512_S8192x4x128)
def vs : FVec Ideal S8192x4x128 .f32 := (shapeCast _ (extractStridedSlice S8192x512 ![0, 1024] (extractStridedSlice S8192x1536 ![0, 3072] Z slices_S8192x4608_S8192x1536_0_3072) slices_S8192x1536_S8192x512_0_1024) shapeCasts_S8192x512_S8192x4x128)
/-- The gates' running sums. -/
def fs : FVec Ideal S4x8192 .f32 := shapeCast _ Fr shapeCasts_S4x1x8192_S4x8192
/-- The scaled scores. -/
def dots : FVec Ideal S4x8192x8192 .f32 := mulf (Host.dotGeneral dot_S8192x4x128_S8192x4x128_S4x8192x8192_2_2_0_0_1_1 none (qs Z) (ks Z)) (broadcastInDim S4x8192x8192 ![] bcast_S_S4x8192x8192 (constant S_ .f32 0x3DB504F3#32))
/-- The bit that keeps a key. -/
def keep : IVec S4x8192x8192 1 := broadcastInDim S4x8192x8192 ![0, 1, 2] bcast_S1x8192x8192_S4x8192x8192_0_1_2 (broadcastInDim S1x8192x8192 ![1, 2] bcast_S8192x8192_S1x8192x8192_1_2 (cmpi .sge (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0)))))
/-- The biased and masked scores. -/
def logits (D : FVec Ideal S4x8192x8192 .f32) (f : FVec Ideal S4x8192 .f32) : FVec Ideal S4x8192x8192 .f32 := select keep (subf (addf D (broadcastInDim S4x8192x8192 ![0, 1, 2] bcast_S4x8192x1_S4x8192x8192_0_1_2 (broadcastInDim S4x8192x1 ![0, 1] bcast_S4x8192_S4x8192x1_0_1 f))) (broadcastInDim S4x8192x8192 ![0, 1, 2] bcast_S4x1x8192_S4x8192x8192_0_1_2 (broadcastInDim S4x1x8192 ![0, 2] bcast_S4x8192_S4x1x8192_0_2 f))) (broadcastInDim S4x8192x8192 ![] bcast_S_S4x8192x8192 (id (constant S_ .f32 0xFF800000#32)))
/-- The maximum of each row of scores. -/
def tops : FVec Ideal S4x8192 .f32 := maximumf (broadcastInDim S4x8192 ![] bcast_S_S4x8192 (constant S_ .f32 0xFF800000#32)) (Host.reduce FloatOps.maximumf S (constant S_ .f32 0xFF800000#32) reducesTo_S4x8192x8192_S4x8192_d2 h_S_)
/-- An array of rows over every column. -/
def spread : FVec Ideal S4x8192x8192 .f32 := broadcastInDim S4x8192x8192 ![0, 1, 2] bcast_S4x8192x1_S4x8192x8192_0_1_2 (broadcastInDim S4x8192x1 ![0, 1] bcast_S4x8192_S4x8192x1_0_1 M)
/-- The weights before and after they are normalized. -/
def weights : FVec Ideal S4x8192x8192 .f32 := Host.exp (subf S (spread (tops S)))
def sums : FVec Ideal S4x8192 .f32 := Host.reduceAdd P (constant S_ .f32 0x00000000#32) reducesTo_S4x8192x8192_S4x8192_d2 h_S_
def probs : FVec Ideal S4x8192x8192 .f32 := Host.divf P (spread (sums P))
/-- The weighted values. -/
def mixed : FVec Ideal S4x128x8192 .f32 := Host.dotGeneral dot_S8192x4x128_S4x8192x8192_S4x128x8192_0_2_2_1_1_0 none (vs Z) P
def outs (O : FVec Ideal S4x128x8192 .f32) : FVec Ideal S8192x512 .bf16 := truncf .bf16 (shapeCast _ (transpose S8192x4x128 [2, 0, 1] O transposes_S4x128x8192_S8192x4x128_2_0_1) shapeCasts_S8192x4x128_S8192x512) bitsLt_bf16_f32

/-! ## Each at an index -/

theorem z_at (I : Fin 8192) (C : Fin 4608) (n : ℕ) (e : C.val = n) : Z (ix2 I C) = zAt Z I.val n := by
  subst e
  unfold zAt
  rw [show Fin.ofNat 8192 I.val = I from Fin.ext (Nat.mod_eq_of_lt I.isLt), show Fin.ofNat 4608 C.val = C from Fin.ext (Nat.mod_eq_of_lt C.isLt)]

theorem qs_at (I : Fin 8192) (h : Fin 4) (d : Fin 128) : qs Z (ix3 I h d) = zAt Z I.val (128 * (24 + h.val) + d.val) := by
  pointwise [qs]
  exact z_at Z I _ _ (by have := h.isLt; have := d.isLt; simp only []; omega)

theorem ks_at (I : Fin 8192) (h : Fin 4) (d : Fin 128) : ks Z (ix3 I h d) = zAt Z I.val (128 * (28 + h.val) + d.val) := by
  pointwise [ks]
  exact z_at Z I _ _ (by have := h.isLt; have := d.isLt; simp only []; omega)

theorem vs_at (I : Fin 8192) (h : Fin 4) (d : Fin 128) : vs Z (ix3 I h d) = zAt Z I.val (128 * (32 + h.val) + d.val) := by
  pointwise [vs]
  exact z_at Z I _ _ (by have := h.isLt; have := d.isLt; simp only []; omega)

theorem fs_at (h : Fin 4) (I : Fin 8192) : fs Fr (ix2 h I) = fAt Fr h.val I.val := by
  pointwise [fs]
  unfold fAt
  rw [show Fin.ofNat 8192 I.val = I from Fin.ext (Nat.mod_eq_of_lt I.isLt), show Fin.ofNat 4 h.val = h from Fin.ext (Nat.mod_eq_of_lt h.isLt)]

theorem dots_at (h : Fin 4) (I j : Fin 8192) : dots Z (ix3 h I j) = dotAt Z h.val I.val j.val := by
  have e : dots Z (ix3 h I j) = (∑ d : Fin 128, qs Z (ix3 I h d) * ks Z (ix3 j h d)) * scale := by
    pointwise [dots]
    rfl
  rw [e]
  simp only [qs_at, ks_at]
  rfl

theorem keep_at (h : Fin 4) (I j : Fin 8192) : keep (ix3 h I j) = if j.val ≤ I.val then 1#1 else 0#1 := by
  have hi := I.isLt
  have hj := j.isLt
  pointwise [keep]
  split <;> word_omega

theorem ninf : Ideal.ofBits .f32 0xFF800000#32 = ⊥ := by simp [Ideal.ofBits, Ideal.ieee]

/-- The host's maximum along the last axis. -/
theorem reduce_max {n0 n1 n2 : ℕ} {u : Shape} (h : (⟨3, ![n0, n1, n2]⟩ : Shape).ReducesTo [2] ⟨2, ![n0, n1]⟩) (hu : 0 < u.numel)
    (x : FVec Ideal ⟨3, ![n0, n1, n2]⟩ .f32) (init : FVec Ideal u .f32) (a : Fin n0) (b : Fin n1) :
    Host.reduce FloatOps.maximumf x init h hu (ix2 a b) = Finset.univ.fold max (init (Shape.Idx.first hu)) fun k : Fin n2 => x (ix3 a b k) := by
  pointwise

theorem fold_max (n : ℕ) (f : Fin n → EReal) : max ⊥ (Finset.univ.fold max ⊥ f) = Finset.univ.fold max ⊥ f := max_eq_right bot_le

theorem tops_at (h : Fin 4) (I : Fin 8192) : tops S (ix2 h I) = Finset.univ.fold max ⊥ fun j : Fin 8192 => S (ix3 h I j) := by
  have e := reduce_max reducesTo_S4x8192x8192_S4x8192_d2 h_S_ S (constant S_ .f32 0xFF800000#32) h I
  rw [show (constant (F := Ideal) S_ .f32 0xFF800000#32) (Shape.Idx.first h_S_) = ⊥ from ninf] at e
  refine Eq.trans ?_ (fold_max 8192 fun j => S (ix3 h I j))
  rw [← e, ← ninf]
  exact (maximumf_apply _ _ _).trans rfl

theorem logits_at (D : FVec Ideal S4x8192x8192 .f32) (f : FVec Ideal S4x8192 .f32) (h : Fin 4) (I j : Fin 8192) : logits D f (ix3 h I j) = if j.val ≤ I.val then D (ix3 h I j) + f (ix2 h I) - f (ix2 h j) else ⊥ := by
  pointwise [logits]
  rw [keep_at]
  split
  · rfl
  · exact ninf

theorem spread_at (h : Fin 4) (I j : Fin 8192) : spread M (ix3 h I j) = M (ix2 h I) := by
  pointwise [spread]

theorem weights_at (h : Fin 4) (I j : Fin 8192) : weights S (ix3 h I j) = Ideal.exp (S (ix3 h I j) - tops S (ix2 h I)) := by
  rw [← spread_at (tops S) h I j]
  pointwise [weights]

theorem sums_at (h : Fin 4) (I : Fin 8192) : sums P (ix2 h I) = ∑ j : Fin 8192, P (ix3 h I j) := by
  pointwise [sums]

theorem probs_at (h : Fin 4) (I j : Fin 8192) : probs P (ix3 h I j) = Ideal.div (P (ix3 h I j)) (sums P (ix2 h I)) := by
  rw [← spread_at (sums P) h I j]
  pointwise [probs]

theorem mixed_at (h : Fin 4) (d : Fin 128) (I : Fin 8192) : mixed Z P (ix3 h d I) = ∑ j : Fin 8192, vs Z (ix3 j h d) * P (ix3 h I j) := by
  pointwise [mixed]

theorem outs_at (O : FVec Ideal S4x128x8192 .f32) (I : Fin 8192) (C : Fin 512) :
    outs O (ix2 I C) = O (ix3 ⟨C.val / 128, by have := C.isLt; omega⟩ ⟨C.val % 128, by omega⟩ I) := by
  pointwise [outs]

end Stages

variable (m : (ℓ : Loc nD τ sig) → Buf (Elt Ideal) ℓ) (c : Dev nD)

theorem res_eq : res_main_v39 (F := Ideal) m c = outs (mixed (m ((c.tc : Thread nD τ).loc main_arg0)) (probs (weights (logits (dots (m ((c.tc : Thread nD τ).loc main_arg0))) (fs (m ((c.tc : Thread nD τ).loc main_arg1))))))) := rfl

/-- A row of scores as the reference takes it: the bias is counted from the query. -/
def scoreR (Z : FVec Ideal S8192x4608 .f32) (Fr : FVec Ideal S4x1x8192 .f32) (h I j : ℕ) : EReal :=
  if j ≤ I then dotAt Z h I j + fAt Fr h I - fAt Fr h j else ⊥

/-- The maximum of the first `n` scores, as a fold over them. -/
theorem mx_fold (s : ℕ → EReal) (n : ℕ) : (Finset.univ.fold max ⊥ fun j : Fin n => s j.val) = mx s n := by
  have e := mx_step s 0 n
  simp only [mx_zero, Nat.zero_add] at e
  rw [← e]
  exact (max_eq_right bot_le).symm

/-- The reference's result at a query and a column. -/
theorem res_at (Z : FVec Ideal S8192x4608 .f32) (Fr : FVec Ideal S4x1x8192 .f32) (I : Fin 8192) (C : Fin 512) :
    outs (mixed Z (probs (weights (logits (dots Z) (fs Fr))))) (ix2 I C)
      = ∑ j ∈ Finset.range 8192, valAt Z (C.val / 128) (C.val % 128) j
          * Ideal.div (Ideal.exp (scoreR Z Fr (C.val / 128) I.val j - mx (scoreR Z Fr (C.val / 128) I.val) 8192)) (den (scoreR Z Fr (C.val / 128) I.val) 8192) := by
  have hl : ∀ (h : Fin 4) (j : Fin 8192), logits (dots Z) (fs Fr) (ix3 h I j) = scoreR Z Fr h.val I.val j.val := fun h j => by
    rw [logits_at, dots_at, fs_at, fs_at]; rfl
  have ht : ∀ h : Fin 4, tops (logits (dots Z) (fs Fr)) (ix2 h I) = mx (scoreR Z Fr h.val I.val) 8192 := fun h => by
    rw [tops_at]; simp only [hl]; exact mx_fold _ _
  have hw : ∀ (h : Fin 4) (j : Fin 8192), weights (logits (dots Z) (fs Fr)) (ix3 h I j)
      = Ideal.exp (scoreR Z Fr h.val I.val j.val - mx (scoreR Z Fr h.val I.val) 8192) := fun h j => by
    rw [weights_at, hl, ht]
  have hs : ∀ h : Fin 4, sums (weights (logits (dots Z) (fs Fr))) (ix2 h I) = den (scoreR Z Fr h.val I.val) 8192 := fun h => by
    rw [sums_at]; simp only [hw]
    exact Fin.sum_univ_eq_sum_range (fun j => Ideal.exp (scoreR Z Fr h.val I.val j - mx (scoreR Z Fr h.val I.val) 8192)) 8192
  rw [outs_at, mixed_at]
  simp only [probs_at, hw, hs, vs_at]
  exact Fin.sum_univ_eq_sum_range (fun j => valAt Z (C.val / 128) (C.val % 128) j
          * Ideal.div (Ideal.exp (scoreR Z Fr (C.val / 128) I.val j - mx (scoreR Z Fr (C.val / 128) I.val) 8192)) (den (scoreR Z Fr (C.val / 128) I.val) 8192)) 8192

end Cert.ReferenceIdeal.Attn

end
-- ==== Proof.Equal.lean ====
/- The two results agree: the bias counted from the query and from the first row of its block differ by one finite number per
   query, which the softmax cancels. The precondition gives the finiteness. -/
module

public import proofs.«01_k».proof.Proof.RefValue
public import proofs.«01_k».proof.Proof.Gen.Pre_finite
public import Idealize.ShloMosaic.Lib.ReduceAll

@[expose] public section

set_option maxRecDepth 16384

noncomputable section

namespace Cert.Attn

open Cert.Online
open Cert.KernelIdeal.Attn (zAt fAt dotAt valAt score value Finite Fine)
open Cert.ReferenceIdeal.Attn (scoreR)
open Idealize.ShloMosaic Idealize.ShloMosaic.Pointwise Idealize.ShloMosaic.TcCoe

variable {Z : FVec Ideal Cert.KernelIdeal.S8192x4608 .f32} {Fr : FVec Ideal Cert.KernelIdeal.S4x1x8192 .f32}

/-- The reference's scores of a query are the kernel's, shifted by one finite number. -/
theorem scoreR_shift (H : Finite Z Fr) (h I : ℕ) :
    ∃ d : ℝ, scoreR Z Fr h I = fun j => score Z Fr h (I / 512) (I % 512) j + d := by
  obtain ⟨a, ha⟩ := H.gate h I
  obtain ⟨b, hb⟩ := H.gate h (512 * (I / 512))
  refine ⟨a - b, funext fun j => ?_⟩
  obtain ⟨f, hf⟩ := H.gate h j
  unfold scoreR score
  rw [show 512 * (I / 512) + I % 512 = I by omega]
  split
  · rw [ha, hb, hf]
    generalize dotAt Z h I j = D
    induction D with
    | bot => rfl
    | top => rfl
    | coe r => norm_cast; ring_nf
  · rfl

/-- The reference's scores are a row of scores too. -/
theorem row_scoreR (H : Finite Z Fr) {h : ℕ} (hh : h < 4) (I : ℕ) : Row (scoreR Z Fr h I) where
  ne_top j := by
    unfold scoreR
    split
    · exact (((H.dot hh _ _).add (H.gate _ _)).sub (H.gate _ _)).ne_top
    · exact bot_ne_top
  first := by
    unfold scoreR
    rw [if_pos (Nat.zero_le _)]
    exact (((H.dot hh _ _).add (H.gate _ _)).sub (H.gate _ _)).ne_bot

/-- At each query and column the kernel's quotient is the reference's sum of normalized weights times values. -/
theorem value_eq (H : Finite Z Fr) (I : Fin 8192) (C : Fin 512) :
    value Z Fr I.val C.val = ∑ j ∈ Finset.range 8192, valAt Z (C.val / 128) (C.val % 128) j
      * Ideal.div (Ideal.exp (scoreR Z Fr (C.val / 128) I.val j - mx (scoreR Z Fr (C.val / 128) I.val) 8192)) (den (scoreR Z Fr (C.val / 128) I.val) 8192) := by
  have hI := I.isLt
  have hh : C.val / 128 < 4 := by have := C.isLt; omega
  have hn : 512 * (I.val / 512) + 512 ≤ 8192 := by omega
  have hm : ∀ j, 512 * (I.val / 512) + 512 ≤ j → score Z Fr (C.val / 128) (I.val / 512) (I.val % 512) j = ⊥ := fun j hj => by
    unfold score; rw [if_neg (by omega)]
  rw [← (row_scoreR H hh I.val).div_num _ (by decide)]
  obtain ⟨d, e⟩ := scoreR_shift H (C.val / 128) I.val
  have R := H.row hh (I.val / 512) (I.val % 512)
  unfold value
  rw [e, den_eq fun j => score Z Fr (C.val / 128) (I.val / 512) (I.val % 512) j + d, R.num_shift, R.num_shift, ← den_eq, num_masked _ _ hn hm, den_masked _ hn hm]

/-! ## The precondition -/

theorem inf_top : Ideal.ofBits .f32 0x7F800000#32 = ⊤ := by simp [Ideal.ofBits, Ideal.ieee]

/-- An element the comparison finds below infinity in absolute value is finite. -/
theorem fine_of_bit {s : Shape} (x b : FVec Ideal s .f32) (i : s.Idx) (hb : b i = ⊤) (e : cmpf .olt (Host.absf x) b i = 1#1) : Fine (x i) := by
  have e' : BitVec.ofBool (decide (max (x i : EReal) (-(x i : EReal)) < (b i : EReal))) = 1#1 := e
  rw [hb] at e'
  refine Fine.of_abs_lt ?_
  by_contra h
  rw [decide_eq_false h] at e'
  exact absurd e' (by decide)

instance : Subsingleton Cert.Pre_finite.S_.Idx := ⟨fun a b => funext fun i => i.elim0⟩

/-- The precondition says that the queries, the keys and the gates' running sums are finite. -/
theorem finite_of_pre (h : Cert.Pre_finite.fn (F := Ideal) Z Fr = fun _ => 1#1) : Finite Z Fr := by
  have h0 := congrFun h (Shape.Idx.first Cert.Pre_finite.Gen.h_S_)
  obtain ⟨hz, hf⟩ := IntOp.andi_eq_one.1 h0
  refine ⟨fun R C h1 h2 => ?_, fun a J => ?_⟩
  · have hC : C - 3072 < 1024 := by omega
    have e := Host.reduce_andi_all _ _ _ _ _ hz (ix2 (n0 := 8192) (n1 := 1024) (Fin.ofNat 8192 R) ⟨C - 3072, hC⟩)
    have e2 := fine_of_bit _ _ _ inf_top e
    have e3 : extractStridedSlice Cert.Pre_finite.S8192x1024 ![0, 3072] Z Cert.Pre_finite.Gen.slices_S8192x4608_S8192x1024_0_3072 (ix2 (n0 := 8192) (n1 := 1024) (Fin.ofNat 8192 R) ⟨C - 3072, hC⟩) = zAt Z R C := by
      unfold zAt
      pointwise
      exact congrArg (fun k => Z (ix2 (Fin.ofNat 8192 R) k)) (Fin.ext ((show 3072 + (C - 3072) = C by omega).trans (Nat.mod_eq_of_lt (by omega)).symm))
    exact e3 ▸ e2
  · exact fine_of_bit _ _ _ inf_top (Host.reduce_andi_all _ _ _ _ _ hf (ix3 (n0 := 4) (n1 := 1) (n2 := 8192) (Fin.ofNat 4 a) (0 : Fin 1) (Fin.ofNat 8192 J)))

end Cert.Attn

end
-- ==== Proof.Gates.lean ====
/- The gates: each block of the kernel's result is the reference's at the block's place. -/
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

namespace Cert.Kernel2Ideal.Value

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result, of its arguments. -/
abbrev REF (X : FVec Ideal S8192x2048 .bf16) (W : FVec Ideal S2048x8192 .bf16) : FVec Ideal S8192x8192 .bf16 :=
  truncf .bf16 (Host.divf (broadcastInDim Cert.Reference2Ideal.S8192x8192 ![] Cert.Reference2Ideal.Gen.bcast_S_S8192x8192 (constant Cert.Reference2Ideal.S_ .f32 0x3F800000#32)) (addf (broadcastInDim Cert.Reference2Ideal.S8192x8192 ![] Cert.Reference2Ideal.Gen.bcast_S_S8192x8192 (constant Cert.Reference2Ideal.S_ .f32 0x3F800000#32)) (Host.exp (Host.negf (Host.dotGeneral Cert.Reference2Ideal.dot_S8192x2048_S2048x8192_S8192x8192_1_0_0_1_n_n none (extf .f32 X Cert.Reference2Ideal.Gen.bitsLt_bf16_f32) (extf .f32 W Cert.Reference2Ideal.Gen.bitsLt_bf16_f32)))))) Cert.Reference2Ideal.Gen.bitsLt_bf16_f32

/-- Where each window's block lies at a point of the grid. -/
theorem idx : ∀ t : Fin cfg0.N, win0_0.index t = ![t.val / 8, 0] ∧ win0_1.index t = ![0, t.val % 8] ∧ win0_2.index t = ![t.val / 8, t.val % 8] :=
  (by decide +kernel : ∀ t : Fin grid0.N, win0_0.index t = ![t.val / 8, 0] ∧ win0_1.index t = ![0, t.val % 8] ∧ win0_2.index t = ![t.val / 8, t.val % 8])

/-- What a point stores is the reference's value at the block's place. -/
theorem point (c : Dev nD) (t : Fin cfg0.N) (y : S1024x1024.Idx) : k0_pay1 (F := Ideal) (iblk m c 0 t) (iblk m c 1 t) y
    = REF (m ((c : Thread nD τ).loc main_arg0)) (m ((c : Thread nD τ).loc main_arg1)) (((cfg0.win 2).blk t).view.emb y) := by
  pointwise [k0_pay1, REF]
  rw [zero_sub]
  refine congrArg (fun z => Ideal.div 1 (1 + Ideal.exp (-z))) (Finset.sum_congr rfl fun k _ => ?_)
  blk_point [iblk, V, idx t]

/-- The result after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel2Ideal.Value

end
-- ==== Proof.Merge.lean ====
/- The merge of the four streams: each block of the kernel's result is the reference's at the block's place. -/
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

namespace Cert.Kernel3Ideal.Value

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result, of its arguments. -/
abbrev REF (X0 : FVec Ideal S8192x1536 .bf16) (X1 : FVec Ideal S8192x512 .bf16) (X2 : FVec Ideal S8192x8192 .bf16) (X3 : FVec Ideal S4x512x2048 .bf16) : FVec Ideal S8192x2048 .bf16 :=
  truncf .bf16 (Host.dotGeneral Cert.Reference3Ideal.dot_S8192x4x2048_S8192x4x2048_S8192x2048_1_1_n_n_02_02 none (shapeCast _ (extf .f32 X2 Cert.Reference3Ideal.Gen.bitsLt_bf16_f32) Cert.Reference3Ideal.Gen.shapeCasts_S8192x8192_S8192x4x2048) (transpose Cert.Reference3Ideal.S8192x4x2048 [2, 0, 1] (Host.dotGeneral Cert.Reference3Ideal.dot_S4x512x2048_S8192x4x512_S4x2048x8192_1_2_2_0_0_1 none (extf .f32 X3 Cert.Reference3Ideal.Gen.bitsLt_bf16_f32) (extf .f32 ((concatenate Cert.Reference3Ideal.S8192x4x512 1 [⟨Cert.Reference3Ideal.S8192x1x512, ((broadcastInDim Cert.Reference3Ideal.S8192x1x512 ![0, 2] Cert.Reference3Ideal.Gen.bcast_S8192x512_S8192x1x512_0_2 (extractStridedSlice Cert.Reference3Ideal.S8192x512 ![0, 0] X0 Cert.Reference3Ideal.Gen.slices_S8192x1536_S8192x512_0_0)) : (⟨Cert.Reference3Ideal.S8192x1x512, .bf16⟩ : BufTy).Contents (Elt Ideal))⟩, ⟨Cert.Reference3Ideal.S8192x1x512, ((broadcastInDim Cert.Reference3Ideal.S8192x1x512 ![0, 2] Cert.Reference3Ideal.Gen.bcast_S8192x512_S8192x1x512_0_2 (extractStridedSlice Cert.Reference3Ideal.S8192x512 ![0, 512] X0 Cert.Reference3Ideal.Gen.slices_S8192x1536_S8192x512_0_512)) : (⟨Cert.Reference3Ideal.S8192x1x512, .bf16⟩ : BufTy).Contents (Elt Ideal))⟩, ⟨Cert.Reference3Ideal.S8192x1x512, ((broadcastInDim Cert.Reference3Ideal.S8192x1x512 ![0, 2] Cert.Reference3Ideal.Gen.bcast_S8192x512_S8192x1x512_0_2 (extractStridedSlice Cert.Reference3Ideal.S8192x512 ![0, 1024] X0 Cert.Reference3Ideal.Gen.slices_S8192x1536_S8192x512_0_1024)) : (⟨Cert.Reference3Ideal.S8192x1x512, .bf16⟩ : BufTy).Contents (Elt Ideal))⟩, ⟨Cert.Reference3Ideal.S8192x1x512, ((broadcastInDim Cert.Reference3Ideal.S8192x1x512 ![0, 2] Cert.Reference3Ideal.Gen.bcast_S8192x512_S8192x1x512_0_2 X1) : (⟨Cert.Reference3Ideal.S8192x1x512, .bf16⟩ : BufTy).Contents (Elt Ideal))⟩] Cert.Reference3Ideal.Gen.concatenates_S8192x1x512_S8192x1x512_S8192x1x512_S8192x1x512_S8192x4x512_d1 : (⟨Cert.Reference3Ideal.S8192x4x512, .bf16⟩ : BufTy).Contents (Elt Ideal))) Cert.Reference3Ideal.Gen.bitsLt_bf16_f32)) Cert.Reference3Ideal.Gen.transposes_S4x2048x8192_S8192x4x2048_2_0_1)) Cert.Reference3Ideal.Gen.bitsLt_bf16_f32

/-- Where each window's block lies at a point of the grid. -/
theorem idx : ∀ t : Fin cfg0.N, win0_0.index t = ![t.val, 0] ∧ win0_1.index t = ![t.val, 0] ∧ win0_2.index t = ![t.val, 0] ∧ win0_3.index t = ![0, 0, 0] ∧ win0_4.index t = ![t.val, 0] :=
  (by decide +kernel : ∀ t : Fin grid0.N, win0_0.index t = ![t.val, 0] ∧ win0_1.index t = ![t.val, 0] ∧ win0_2.index t = ![t.val, 0] ∧ win0_3.index t = ![0, 0, 0] ∧ win0_4.index t = ![t.val, 0])

/-- What a point stores is the reference's value at the block's place. -/
theorem point (c : Dev nD) (t : Fin cfg0.N) (y : S512x2048.Idx) :
    k0_pay1 (F := Ideal) (k0_pay2 (F := Ideal) (View.ld (iblk m c 0 t) r0_0) (View.ld (iblk m c 3 t) r0_1) (View.ld (iblk m c 2 t) r0_2) (View.ld (iblk m c 0 t) r0_3) (View.ld (iblk m c 3 t) r0_4) (View.ld (iblk m c 2 t) r0_5) (View.ld (iblk m c 0 t) r0_6) (View.ld (iblk m c 3 t) r0_7) (View.ld (iblk m c 2 t) r0_8)) (k0_pay3 (F := Ideal) (iblk m c 1 t) (View.ld (iblk m c 3 t) r0_10)) (View.ld (iblk m c 2 t) r0_11) y
      = REF (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, REF]
  rw [Fin.sum_univ_four]
  refine congrArg₂ (· + ·) (congrArg₂ (· + ·) (congrArg₂ (· + ·) ?_ ?_) ?_) ?_
  · refine congrArg₂ (· * ·) ?_ (Finset.sum_congr rfl fun k _ => (mul_comm _ _).trans ?_)
    · blk_point [iblk, V, idx t]
    · rw [dif_pos (by decide)]
      blk_point [iblk, V, idx t]
  · refine congrArg₂ (· * ·) ?_ (Finset.sum_congr rfl fun k _ => (mul_comm _ _).trans ?_)
    · blk_point [iblk, V, idx t]
    · rw [dif_neg (by decide), dif_pos (by decide)]
      blk_point [iblk, V, idx t]
  · refine congrArg₂ (· * ·) ?_ (Finset.sum_congr rfl fun k _ => (mul_comm _ _).trans ?_)
    · blk_point [iblk, V, idx t]
    · rw [dif_neg (by decide), dif_neg (by decide), dif_pos (by decide)]
      blk_point [iblk, V, idx t]
  · refine congrArg₂ (· * ·) ?_ (Finset.sum_congr rfl fun k _ => (mul_comm _ _).trans ?_)
    · blk_point [iblk, V, idx t]
    · rw [dif_neg (by decide), dif_neg (by decide), dif_neg (by decide)]
      blk_point [iblk, V, idx t]

/-- The result after the run is the reference's. -/
theorem final (c : Dev nD) : (dats m 0 c).arrAt 4 cfg0.N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

end Cert.Kernel3Ideal.Value

end
-- ==== Proof.Outproj.lean ====
/- The output projection with its residual, and the norm of that: each block of the kernel's two results is the reference's at the block's place. -/
module

public import proofs.«01_k».proof.Proof.Gen.Kernel4Ideal.Value
public import proofs.«01_k».proof.Proof.Gen.Reference4Ideal.Run
public import Idealize.ShloMosaic.Lib.Pipeline.ValueKit

@[expose] public section

set_option maxRecDepth 16384

noncomputable section

namespace Cert.Kernel4Ideal.Value

open Cert.Kernel4Ideal Cert.Kernel4Ideal.Gen
open Idealize.ShloMosaic Idealize.ShloMosaic.TcCoe Idealize.SL.Sem
open Idealize.ShloMosaic.Pipeline (Dat)

variable (m : (ℓ : Loc nD τ sig) → Buf (Elt Ideal) ℓ)

/-- The reference's first result, of its arguments. -/
abbrev REF (X0 : FVec Ideal S8192x2048 .bf16) (X1 : FVec Ideal S2048x2048 .bf16) (X2 : FVec Ideal S8192x2048 .f32) : FVec Ideal S8192x2048 .f32 :=
  addf X2 (Host.dotGeneral Cert.Reference4Ideal.dot_S8192x2048_S2048x2048_S8192x2048_1_0_0_1_n_n none (extf .f32 X0 Cert.Reference4Ideal.Gen.bitsLt_bf16_f32) (extf .f32 X1 Cert.Reference4Ideal.Gen.bitsLt_bf16_f32))

/-- The reference's second result, of its arguments. -/
abbrev NORM (X0 : FVec Ideal S8192x2048 .bf16) (X1 : FVec Ideal S2048x2048 .bf16) (X2 : FVec Ideal S8192x2048 .f32) (X3 : FVec Ideal S1x2048 .f32) : FVec Ideal S8192x2048 .bf16 :=
  truncf .bf16 (mulf (mulf (addf X2 (Host.dotGeneral Cert.Reference4Ideal.dot_S8192x2048_S2048x2048_S8192x2048_1_0_0_1_n_n none (extf .f32 X0 Cert.Reference4Ideal.Gen.bitsLt_bf16_f32) (extf .f32 X1 Cert.Reference4Ideal.Gen.bitsLt_bf16_f32))) (broadcastInDim Cert.Reference4Ideal.S8192x2048 ![0, 1] Cert.Reference4Ideal.Gen.bcast_S8192x1_S8192x2048_0_1 (Host.rsqrt (addf (Host.divf (broadcastInDim Cert.Reference4Ideal.S8192x1 ![0] Cert.Reference4Ideal.Gen.bcast_S8192_S8192x1_0 (Host.reduceAdd (mulf (addf X2 (Host.dotGeneral Cert.Reference4Ideal.dot_S8192x2048_S2048x2048_S8192x2048_1_0_0_1_n_n none (extf .f32 X0 Cert.Reference4Ideal.Gen.bitsLt_bf16_f32) (extf .f32 X1 Cert.Reference4Ideal.Gen.bitsLt_bf16_f32))) (addf X2 (Host.dotGeneral Cert.Reference4Ideal.dot_S8192x2048_S2048x2048_S8192x2048_1_0_0_1_n_n none (extf .f32 X0 Cert.Reference4Ideal.Gen.bitsLt_bf16_f32) (extf .f32 X1 Cert.Reference4Ideal.Gen.bitsLt_bf16_f32)))) (constant Cert.Reference4Ideal.S_ .f32 0x00000000#32) Cert.Reference4Ideal.Gen.reducesTo_S8192x2048_S8192_d1 Cert.Reference4Ideal.Gen.h_S_)) (broadcastInDim Cert.Reference4Ideal.S8192x1 ![] Cert.Reference4Ideal.Gen.bcast_S_S8192x1 (constant Cert.Reference4Ideal.S_ .f32 0x45000000#32))) (broadcastInDim Cert.Reference4Ideal.S8192x1 ![] Cert.Reference4Ideal.Gen.bcast_S_S8192x1 (constant Cert.Reference4Ideal.S_ .f32 0x358637BD#32)))))) (broadcastInDim Cert.Reference4Ideal.S8192x2048 ![0, 1] Cert.Reference4Ideal.Gen.bcast_S1x2048_S8192x2048_0_1 X3)) Cert.Reference4Ideal.Gen.bitsLt_bf16_f32

/-- Where each window's block lies at a point of the grid. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![t.val, 0] ∧ win0_3.index t = ![0, 0] ∧ win0_4.index t = ![t.val, 0] ∧ win0_5.index t = ![t.val, 0])

/-- What a point stores of the first result is the reference's value at the block's place. -/
theorem point (c : Dev nD) (t : Fin cfg0.N) (y : S512x2048.Idx) : k0_pay1 (F := Ideal) (iblk m c 2 t) (iblk m c 0 t) (iblk m c 1 t) y
    = REF (m ((c : Thread nD τ).loc main_arg0)) (m ((c : Thread nD τ).loc main_arg1)) (m ((c : Thread nD τ).loc main_arg2)) (((cfg0.win 4).blk t).view.emb y) := by
  pointwise [k0_pay1, REF]
  blk_point [iblk, V, idx t]

/-- What a point stores of the second result is the reference's value at the block's place. -/
theorem point_norm (c : Dev nD) (t : Fin cfg0.N) (y : S512x2048.Idx) : k0_pay2 (F := Ideal) (iblk m c 2 t) (iblk m c 0 t) (iblk m c 1 t) (iblk m c 3 t) y
    = NORM (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay2, k0_pay1, NORM]
  blk_point [iblk, V, idx t]

/-- The first result after the run is the reference's. -/
theorem final (c : Dev nD) : (dats m 0 c).arrAt 4 cfg0.N = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  exact point m c t y

/-- The second result after the run is the reference's. -/
theorem final_norm (c : Dev nD) : (dats m 0 c).arrAt 5 cfg0.N = NORM (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  exact point_norm m c t y

end Cert.Kernel4Ideal.Value

end
-- ==== Proof.FinalNorm.lean ====
/- The last norm: each block of the kernel's result is the reference's at the block's place. -/
module

public import proofs.«01_k».proof.Proof.Gen.Kernel5Ideal.Value
public import proofs.«01_k».proof.Proof.Gen.Reference5Ideal.Run
public import Idealize.ShloMosaic.Lib.Pipeline.ValueKit

@[expose] public section

set_option maxRecDepth 16384

noncomputable section

namespace Cert.Kernel5Ideal.Value

open Cert.Kernel5Ideal Cert.Kernel5Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result, of its arguments. -/
abbrev REF (X0 : FVec Ideal S8192x2048 .f32) (X1 : FVec Ideal S1x2048 .f32) : FVec Ideal S8192x2048 .f32 :=
  mulf (mulf X0 (broadcastInDim Cert.Reference5Ideal.S8192x2048 ![0, 1] Cert.Reference5Ideal.Gen.bcast_S8192x1_S8192x2048_0_1 (Host.rsqrt (addf (Host.divf (broadcastInDim Cert.Reference5Ideal.S8192x1 ![0] Cert.Reference5Ideal.Gen.bcast_S8192_S8192x1_0 (Host.reduceAdd (mulf X0 X0) (constant Cert.Reference5Ideal.S_ .f32 0x00000000#32) Cert.Reference5Ideal.Gen.reducesTo_S8192x2048_S8192_d1 Cert.Reference5Ideal.Gen.h_S_)) (broadcastInDim Cert.Reference5Ideal.S8192x1 ![] Cert.Reference5Ideal.Gen.bcast_S_S8192x1 (constant Cert.Reference5Ideal.S_ .f32 0x45000000#32))) (broadcastInDim Cert.Reference5Ideal.S8192x1 ![] Cert.Reference5Ideal.Gen.bcast_S_S8192x1 (constant Cert.Reference5Ideal.S_ .f32 0x358637BD#32)))))) (broadcastInDim Cert.Reference5Ideal.S8192x2048 ![0, 1] Cert.Reference5Ideal.Gen.bcast_S1x2048_S8192x2048_0_1 X1)

/-- Where each window's block lies at a point of the grid. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- What a point stores is the reference's value at the block's place. -/
theorem point (c : Dev nD) (t : Fin cfg0.N) (y : S512x2048.Idx) : k0_pay1 (F := Ideal) (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result after the run is the reference's. -/
theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel5Ideal.Value

end
-- ==== Proof.InprojKernelIdeal.lean ====
/- The input projection's run, with its casts read as exact: what its body does at the first of the nine points of a row of blocks and at
   the later ones, the pipeline's proof data, the body at any point, the run and the frame. -/
module

public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.Gen.Kernel6Ideal.Frame
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.VecWindow
public import Idealize.ShloMosaic.Lib.Pipeline.Value
public import Idealize.ShloMosaic.Lib.WordCmp

@[expose] public section

set_option maxRecDepth 16384

noncomputable section

namespace Cert.Kernel6Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

/-! ## The schedule -/

/-- The first point of a point's row of blocks. -/
def row (t : Fin cfg0.N) : Fin cfg0.N := ⟨t.val - t.val % 9, Nat.lt_of_le_of_lt (Nat.sub_le _ _) t.isLt⟩

/-- At the first point of a row the row's first point is the point. -/
theorem row_first (t : Fin cfg0.N) (h : t.val % 9 = 0) : row t = t := Fin.ext (by show t.val - t.val % 9 = t.val; omega)

/-- Points of the same row, one after the other, have the same first point. -/
theorem row_pred (t : Fin cfg0.N) (h : t.val % 9 ≠ 0) : row ⟨t.val - 1, by omega⟩ = row t :=
  Fin.ext (by show t.val - 1 - (t.val - 1) % 9 = t.val - t.val % 9; omega)

/-- The body fills the row's buffers at the first point of a row only. -/
theorem cond_iff : ∀ t : Fin cfg0.N, k0_cond1 (grid0.coords t) = 1#1 ↔ t.val % 9 = 0 := by decide +kernel

/-- The second and third results' buffers are left alone at the other points, -/
theorem idle5 : ∀ t : Fin cfg0.N, cfg0.idle (5 : Fin 7) (cfg0.grid.coords t) = decide (t.val % 9 ≠ 0) := by decide +kernel
theorem idle6 : ∀ t : Fin cfg0.N, cfg0.idle (6 : Fin 7) (cfg0.grid.coords t) = decide (t.val % 9 ≠ 0) := by decide +kernel
/-- and hold what the row's first point stored until the row ends. -/
theorem fresh5 : ∀ t : Fin cfg0.N, cfg0.fresh (5 : Fin 7) t.val = decide (t.val % 9 = 0) := by decide +kernel
theorem fresh6 : ∀ t : Fin cfg0.N, cfg0.fresh (6 : Fin 7) t.val = decide (t.val % 9 = 0) := by decide +kernel

/-! ## Loads and stores of whole buffers -/

/-- The offsets of a whole buffer are zero. -/
theorem off2 : (![0, 0] : Fin 2 → ℕ) = fun _ => 0 := by funext a; fin_cases a <;> rfl

/-- A store over a whole buffer, last, is what the buffer reads as. -/
theorem read_full {κ : Kind} {sp : Space} {s : Shape} {e : EltTy} (v : View sig κ sp s e) (f : v.ty.Contents (Elt F)) {off : Fin s.rank → ℕ} (h : off = fun _ => 0)
    (inb : ∀ a, off a + s.size a ≤ s.size a) (w : s.Idx → Elt F e) (L : List (View.Piece (Elt F) s e)) :
    v.read (Elt F) (v.writes (Elt F) f (⟨Rect.unit off s.size inb, w⟩ :: L)) = w :=
  (View.read_writes_eq_canon v f _ fun y => ⟨_, List.mem_cons_self .., View.mem_set_unit_zero h inb y⟩).trans (View.canon_cons_unit_zero h inb w L)

/-- A load over a whole buffer of what such a store left. -/
theorem readCov_full {κ : Kind} {sp : Space} {s : Shape} {e : EltTy} (v : View sig κ sp s e) {off off' : Fin s.rank → ℕ} (h : off = fun _ => 0)
    (inb : ∀ a, off a + s.size a ≤ s.size a) (inb' : ∀ a, off' a + s.size a ≤ s.size a) (w : s.Idx → Elt F e) (L : List (View.Piece (Elt F) s e)) :
    v.readCov (⟨Rect.unit off s.size inb, w⟩ :: L) (Rect.unit off' s.size inb').toLoadRect = w :=
  (View.readAt_full v _ inb').trans (read_full v _ h inb w L)

/-! ## The body -/

set_option maxHeartbeats 1000000 in
/-- At the first point of a row: the rows are normalized into the third result's buffer, the narrow projection of them
    goes to the second's and their projection by the point's block of columns to the first's. -/
theorem sound_first (c : Dev nD) (E : Set ℕ) (i : grid0.Coords) (hc : k0_cond1 i = 1#1)
    (arg2 : Memref sig .tc .vmem S1024x2048 .f32) (harg2 : arg2.IsWhole) (arg3 : Memref sig .tc .vmem S1x2048 .f32) (harg3 : arg3.IsWhole)
    (arg4 : Memref sig .tc .vmem S2048x512 .bf16) (harg4 : arg4.IsWhole) (arg5 : Memref sig .tc .vmem S2048x128 .bf16) (harg5 : arg5.IsWhole)
    (arg6 : Memref sig .tc .vmem S1024x512 .f32) (harg6 : arg6.IsWhole) (arg7 : Memref sig .tc .vmem S1024x128 .f32) (harg7 : arg7.IsWhole)
    (arg8 : Memref sig .tc .vmem S1024x2048 .bf16) (harg8 : arg8.IsWhole)
    (x0 : Vec F S1024x2048 .f32) (x1 : Vec F S1x2048 .f32) (x2 : Vec F S2048x512 .bf16) (x3 : Vec F S2048x128 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay3 (k0_pay1 x0 x1) x2) ∗ owns (c : Thread nD τ) arg7 fullShare (k0_pay2 x0 x1 x3) ∗ owns (c : Thread nD τ) arg8 fullShare (k0_pay1 x0 x1)) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_full arg6.view _ off2 _ _ _).trans (congrArg₂ (k0_pay3 (F := F)) ((readCov_full arg8.view off2 _ _ _ _).trans (congrArg₂ (k0_pay1 (F := F)) ?_ ?_)) ?_)
    all_goals exact View.readAt_full _ _ _
  isplitl [H5]
  · iexists _; isplitr
    swap; · iexact H5
    ipureintro
    refine (read_full arg7.view _ off2 _ _ _).trans ?_
    rw [View.readAt_full, View.readAt_full, View.readAt_full]
  iexists _; isplitr
  swap; · iexact H6
  ipureintro
  refine (read_full arg8.view _ off2 _ _ _).trans (congrArg₂ (k0_pay1 (F := F)) ?_ ?_)
  all_goals exact View.readAt_full _ _ _

set_option maxHeartbeats 1000000 in
/-- At a later point of the row: the normalized rows kept in the third result's buffer are projected by the point's block
    of columns, and the second's and third's buffers are left. -/
theorem sound_later (c : Dev nD) (E : Set ℕ) (i : grid0.Coords) (hc : ¬(k0_cond1 i = 1#1))
    (arg2 : Memref sig .tc .vmem S1024x2048 .f32) (harg2 : arg2.IsWhole) (arg3 : Memref sig .tc .vmem S1x2048 .f32) (harg3 : arg3.IsWhole)
    (arg4 : Memref sig .tc .vmem S2048x512 .bf16) (harg4 : arg4.IsWhole) (arg5 : Memref sig .tc .vmem S2048x128 .bf16) (harg5 : arg5.IsWhole)
    (arg6 : Memref sig .tc .vmem S1024x512 .f32) (harg6 : arg6.IsWhole) (arg7 : Memref sig .tc .vmem S1024x128 .f32) (harg7 : arg7.IsWhole)
    (arg8 : Memref sig .tc .vmem S1024x2048 .bf16) (harg8 : arg8.IsWhole)
    (x2 : Vec F S2048x512 .bf16) (y : Vec F S1024x2048 .bf16) (K : PUnit → sProp 𝕄) :
    iprop(owns (c : Thread nD τ) arg4 fullShare x2 ∗ (∃ d, owns (c : Thread nD τ) arg6 fullShare d) ∗ owns (c : Thread nD τ) arg8 fullShare y
        ∗ (iprop(owns (c : Thread nD τ) arg4 fullShare x2 ∗ owns (c : Thread nD τ) arg6 fullShare (k0_pay3 y x2) ∗ owns (c : Thread nD τ) arg8 fullShare y) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f2, %hf2, H2⟩, ⟨%d4, %f4, -, H4⟩, ⟨%f6, %hf6, H6⟩, Hk⟩
  subst hf2 hf6
  sl_exec (disch := exact hc)
  sl_step
  iapply Hk
  isplitl [H2]
  · iexists f2; isplitr; · ipureintro; rfl
    iexact H2
  isplitl [H4]
  · iexists _; isplitr
    swap; · iexact H4
    ipureintro
    refine (read_full arg6.view _ off2 _ _ _).trans (congrArg₂ (k0_pay3 (F := F)) ?_ ?_)
    all_goals exact View.readAt_full _ _ _
  iexists f6; isplitr; · ipureintro; rfl
  iexact H6

/-! ## The pipeline's proof data -/

variable (m : (ℓ : Loc nD τ sig) → Buf (Elt F) ℓ) (ρ : Dev nD → PrngReg)

/-- The normalized rows of a point's row of blocks. -/
def rows (c : Dev nD) (t : Fin cfg0.N) : Vec F S1024x2048 .bf16 := k0_pay1 (iblk m c 0 (row t)) (iblk m c 1 (row t))
/-- Their narrow projection. -/
def narrow (c : Dev nD) (t : Fin cfg0.N) : Vec F S1024x128 .f32 := k0_pay2 (iblk m c 0 (row t)) (iblk m c 1 (row t)) (iblk m c 3 (row t))
/-- Their projection by the point's block of columns. -/
def wide (c : Dev nD) (t : Fin cfg0.N) : Vec F S1024x512 .f32 := k0_pay3 (rows m c t) (iblk m c 2 t)

/-- What each buffer holds after the body at a point: an input's its block, the first result's the point's product, the
    other two what the row's first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => wide m c t
    | ⟨5, _⟩ => narrow m c t
    | ⟨6, _⟩ => rows m c t
  Φ _ := Pipeline.ΦA spec0 c
  q _ := fullShare
  owed _ := 0

/-- The arrays are those the run starts with. -/
theorem A_eq (c : Dev nD) (w : Fin cfg0.W) : (dats m 0 c).A w = V m c (Pipeline.arrRef spec0 w) := by
  dsimp only [dats]

/-- What the body leaves, buffer by buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = wide m c t := by dsimp only [dats]
theorem after0_5 (c : Dev nD) (t : Fin cfg0.N) : (dats m 0 c).after 5 t = narrow m c t := by dsimp only [dats]
theorem after0_6 (c : Dev nD) (t : Fin cfg0.N) : (dats m 0 c).after 6 t = rows m c t := by dsimp only [dats]

/-- An input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Within a row the kept values are the same from point to point. -/
theorem rows_pred (c : Dev nD) (t : Fin cfg0.N) (h : t.val % 9 ≠ 0) : rows m c ⟨t.val - 1, by omega⟩ = rows m c t := by
  unfold rows; rw [row_pred t h]
theorem narrow_pred (c : Dev nD) (t : Fin cfg0.N) (h : t.val % 9 ≠ 0) : narrow m c ⟨t.val - 1, by omega⟩ = narrow m c t := by
  unfold narrow; rw [row_pred t h]

/-- At a later point of a row the second result's buffer holds what the row's first point stored, -/
theorem before0_5 (c : Dev nD) (t : Fin cfg0.N) (h : t.val % 9 ≠ 0) (d) : (dats m 0 c).before 5 t d = narrow m c t := by
  refine ((dats m 0 c).before_out_traj (5 : Fin 7) rfl (fun _ _ => rfl) (fun u hu hi hf => ?_) t.val t rfl d).trans ?_
  · have hf' : u.val % 9 ≠ 0 := of_decide_eq_false ((fresh5 u).symm.trans hf)
    exact (after0_5 m c u).trans ((narrow_pred m c u hf').symm.trans (after0_5 m c _).symm)
  · rw [if_neg (by rw [fresh5 t, decide_eq_false h]; exact Bool.false_ne_true)]
    exact (after0_5 m c _).trans (narrow_pred m c t h)
/-- and so does the third's. -/
theorem before0_6 (c : Dev nD) (t : Fin cfg0.N) (h : t.val % 9 ≠ 0) (d) : (dats m 0 c).before 6 t d = rows m c t := by
  refine ((dats m 0 c).before_out_traj (6 : Fin 7) rfl (fun _ _ => rfl) (fun u hu hi hf => ?_) t.val t rfl d).trans ?_
  · have hf' : u.val % 9 ≠ 0 := of_decide_eq_false ((fresh6 u).symm.trans hf)
    exact (after0_6 m c u).trans ((rows_pred m c u hf').symm.trans (after0_6 m c _).symm)
  · rw [if_neg (by rw [fresh6 t, decide_eq_false h]; exact Bool.false_ne_true)]
    exact (after0_6 m c _).trans (rows_pred m c t h)

/-! ## The body at any point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns: each buffer as the proof data says. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body's run at any point, all its buffers told. -/
theorem sound_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  by_cases h : t.val % 9 = 0
  · unfold wide narrow rows
    rw [row_first t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_first c Set.univ (grid0.coords t) ((cond_iff t).mpr h) _ _ _ _ _ _ _ _ _ _ _ _ _ _ (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before0_5 m c t h, before0_6 m c t h]
    unfold wide
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_later c Set.univ (grid0.coords t) (fun hc => h ((cond_iff t).mp hc)) _ _ _ _ _ _ _ _ _ _ _ _ _ _ (iblk m c 2 t) (rows m c t) _)
    isplitl [H2]; · iexact H2
    isplitl [H4]; · iexists _; iexact H4
    isplitl [H6]; · iexact H6
    iintro ⟨H2, H4, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- A buffer left alone, told as the pipeline asks: what it held, or at the row's last point what is written back. -/
theorem told5 (c : Dev nD) (t : Fin cfg0.N) :
    owns (c : Thread nD τ) (st0_5 t) fullShare ((dats m 0 c).after 5 t) ⊢@{sProp 𝕄}
      match cfg0.idle 5 (cfg0.grid.coords t) with
      | true =>
        match (cfg0.win 5).flush t with
        | false => iprop(∃ d, owns (c : Thread nD τ) ((cfg0.win 5).stage (cfg0.slots t 5)) fullShare ((dats m 0 c).before 5 t d))
        | true => owns (c : Thread nD τ) ((cfg0.win 5).stage (cfg0.slots t 5)) fullShare ((dats m 0 c).after 5 t)
      | false => owns (c : Thread nD τ) ((cfg0.win 5).stage (cfg0.slots t 5)) fullShare ((dats m 0 c).after 5 t) := by
  rewrite [idle5 t]
  by_cases h : t.val % 9 = 0
  · rewrite [decide_eq_false (not_not_intro h)]; exact .rfl
  · rewrite [decide_eq_true h]
    cases (cfg0.win 5).flush t
    · simp only [before0_5 m c t h, after0_5]
      iintro H; iexists (narrow m c t); iexact H
    · exact .rfl
theorem told6 (c : Dev nD) (t : Fin cfg0.N) :
    owns (c : Thread nD τ) (st0_6 t) fullShare ((dats m 0 c).after 6 t) ⊢@{sProp 𝕄}
      match cfg0.idle 6 (cfg0.grid.coords t) with
      | true =>
        match (cfg0.win 6).flush t with
        | false => iprop(∃ d, owns (c : Thread nD τ) ((cfg0.win 6).stage (cfg0.slots t 6)) fullShare ((dats m 0 c).before 6 t d))
        | true => owns (c : Thread nD τ) ((cfg0.win 6).stage (cfg0.slots t 6)) fullShare ((dats m 0 c).after 6 t)
      | false => owns (c : Thread nD τ) ((cfg0.win 6).stage (cfg0.slots t 6)) fullShare ((dats m 0 c).after 6 t) := by
  rewrite [idle6 t]
  by_cases h : t.val % 9 = 0
  · rewrite [decide_eq_false (not_not_intro h)]; exact .rfl
  · rewrite [decide_eq_true h]
    cases (cfg0.win 6).flush t
    · simp only [before0_6 m c t h, after0_6]
      iintro H; iexists (rows m c t); iexact H
    · exact .rfl

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- What the body returns is what the pipeline asks of it. -/
theorem told (c : Dev nD) (t : Fin cfg0.N) :
    bodyPost m c t ⊢ iprop((dats m 0 c).Φ t.succ ∗ (dats m 0 c).owesAt () t.succ
        ∗ bigSep Finset.univ fun w : Fin cfg0.W =>
            match cfg0.idle w (cfg0.grid.coords t) with
            | true =>
              match (cfg0.win w).flush t with
              | false => iprop(∃ d, owns (c : Thread nD τ) ((cfg0.win w).stage (cfg0.slots t w)) fullShare ((dats m 0 c).before w t d))
              | true => owns (c : Thread nD τ) ((cfg0.win w).stage (cfg0.slots t w)) fullShare ((dats m 0 c).after w t)
            | false => owns (c : Thread nD τ) ((cfg0.win w).stage (cfg0.slots t w)) fullShare ((dats m 0 c).after w t)) := by
  rw [bigSep_W0]
  unfold bodyPost
  iintro ⟨HΦ, Ho, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iapply (told5 m c t); iexact H5
  iapply (told6 m c t); iexact H6

/-- The pipeline's obligation on the body, at every point. -/
theorem body_obligation (c : Dev nD) : BodyObligation (dats (F := F) m 0 c) (defs₀ (F := F)) Variants.none () Set.univ := fun t => by
  rw [bigSep_W0, defs₀_row]
  exact triple_restated (sound_point m c t) rfl .rfl fun _ => told m c t

/-! ## The run and the frame -/

set_option backward.isDefEq.respectTransparency.types false in
set_option maxHeartbeats 800000 in
/-- The run: every array ends as the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arrays the run ends with. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

/-- The results end as the proof data's arrays and the arguments as they began. -/
theorem run_blocks : θ_run defs (onTc (τ := τ) (main (F := F))) ⟨m, fun _ => 0, ρ⟩ fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_v0_2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1 c).1 4, (h.1 c).1 5, (h.1 c).1 6, h.2 c⟩)
    (θ_run_and (run_main m ρ) (frame_of m ρ (dats m) (A_eq m) (run_main m ρ)))

end Cert.Kernel6Ideal.Proj

end
-- ==== Proof.Inproj.lean ====
/- The input projection: each block of the kernel's three results is the reference's at the block's place. -/
module

public import proofs.«01_k».proof.Proof.InprojKernelIdeal
public import proofs.«01_k».proof.Proof.Gen.Reference6Ideal.Run
public import Idealize.ShloMosaic.Lib.Pipeline.ValueKit

@[expose] public section

set_option maxRecDepth 16384

noncomputable section

namespace Cert.Kernel6Ideal.Proj

open Cert.Kernel6Ideal Cert.Kernel6Ideal.Gen
open Idealize.ShloMosaic Idealize.ShloMosaic.TcCoe Idealize.SL.Sem
open Idealize.ShloMosaic.Pipeline (Dat)

variable (m : (ℓ : Loc nD τ sig) → Buf (Elt Ideal) ℓ)

/-- The reference's normalized rows, before their cast. -/
abbrev NORM (X0 : FVec Ideal S8192x2048 .f32) (X1 : FVec Ideal S1x2048 .f32) : FVec Ideal S8192x2048 .f32 :=
  mulf (mulf X0 (broadcastInDim Cert.Reference6Ideal.S8192x2048 ![0, 1] Cert.Reference6Ideal.Gen.bcast_S8192x1_S8192x2048_0_1 (Host.rsqrt (addf (Host.divf (broadcastInDim Cert.Reference6Ideal.S8192x1 ![0] Cert.Reference6Ideal.Gen.bcast_S8192_S8192x1_0 (Host.reduceAdd (mulf X0 X0) (constant Cert.Reference6Ideal.S_ .f32 0x00000000#32) Cert.Reference6Ideal.Gen.reducesTo_S8192x2048_S8192_d1 Cert.Reference6Ideal.Gen.h_S_)) (broadcastInDim Cert.Reference6Ideal.S8192x1 ![] Cert.Reference6Ideal.Gen.bcast_S_S8192x1 (constant Cert.Reference6Ideal.S_ .f32 0x45000000#32))) (broadcastInDim Cert.Reference6Ideal.S8192x1 ![] Cert.Reference6Ideal.Gen.bcast_S_S8192x1 (constant Cert.Reference6Ideal.S_ .f32 0x358637BD#32)))))) (broadcastInDim Cert.Reference6Ideal.S8192x2048 ![0, 1] Cert.Reference6Ideal.Gen.bcast_S1x2048_S8192x2048_0_1 X1)

/-- The reference's three results, of its arguments: the wide projection, the narrow one and the normalized rows. -/
abbrev REFZ (X0 : FVec Ideal S8192x2048 .f32) (X1 : FVec Ideal S1x2048 .f32) (W : FVec Ideal S2048x4608 .bf16) : FVec Ideal S8192x4608 .f32 :=
  Host.dotGeneral Cert.Reference6Ideal.dot_S8192x2048_S2048x4608_S8192x4608_1_0_0_1_n_n none (NORM X0 X1) (extf .f32 W Cert.Reference6Ideal.Gen.bitsLt_bf16_f32)
abbrev REFG (X0 : FVec Ideal S8192x2048 .f32) (X1 : FVec Ideal S1x2048 .f32) (W : FVec Ideal S2048x128 .bf16) : FVec Ideal S8192x128 .f32 :=
  Host.dotGeneral Cert.Reference6Ideal.dot_S8192x2048_S2048x128_S8192x128_1_0_0_1_n_n none (NORM X0 X1) (extf .f32 W Cert.Reference6Ideal.Gen.bitsLt_bf16_f32)
abbrev REFX (X0 : FVec Ideal S8192x2048 .f32) (X1 : FVec Ideal S1x2048 .f32) : FVec Ideal S8192x2048 .bf16 :=
  truncf .bf16 (NORM X0 X1) Cert.Reference6Ideal.Gen.bitsLt_bf16_f32

/-- Where each window's block lies at a point of the grid, and at the first point of its row. -/
theorem idx : ∀ t : Fin cfg0.N, win0_0.index (row t) = ![t.val / 9, 0] ∧ win0_1.index (row t) = ![0, 0] ∧ win0_3.index (row t) = ![0, 0] ∧ win0_2.index t = ![0, t.val % 9]
      ∧ win0_4.index t = ![t.val / 9, t.val % 9] ∧ win0_5.index t = ![t.val / 9, 0] ∧ win0_6.index t = ![t.val / 9, 0] :=
  (by decide +kernel : ∀ t : Fin grid0.N, win0_0.index (row t) = ![t.val / 9, 0] ∧ win0_1.index (row t) = ![0, 0] ∧ win0_3.index (row t) = ![0, 0] ∧ win0_2.index t = ![0, t.val % 9]
      ∧ win0_4.index t = ![t.val / 9, t.val % 9] ∧ win0_5.index t = ![t.val / 9, 0] ∧ win0_6.index t = ![t.val / 9, 0])

/-- The normalized rows at a point are the reference's at the block's place. -/
theorem pointX (c : Dev nD) (t : Fin cfg0.N) (y : S1024x2048.Idx) : k0_pay1 (F := Ideal) (iblk m c 0 (row t)) (iblk m c 1 (row t)) y
    = REFX (m ((c : Thread nD τ).loc main_arg0)) (m ((c : Thread nD τ).loc main_arg1)) (((cfg0.win 6).blk t).view.emb y) := by
  pointwise [k0_pay1, REFX, NORM]
  blk_point [iblk, V, idx t]

/-- The narrow projection at a point is the reference's there, -/
theorem pointG (c : Dev nD) (t : Fin cfg0.N) (y : S1024x128.Idx) : k0_pay2 (F := Ideal) (iblk m c 0 (row t)) (iblk m c 1 (row t)) (iblk m c 3 (row t)) y
    = REFG (m ((c : Thread nD τ).loc main_arg0)) (m ((c : Thread nD τ).loc main_arg1)) (m ((c : Thread nD τ).loc main_arg3)) (((cfg0.win 5).blk t).view.emb y) := by
  pointwise [k0_pay2, k0_pay1, REFG, NORM]
  refine Finset.sum_congr rfl fun k _ => ?_
  blk_point [iblk, V, idx t]

/-- and so is the wide one. -/
theorem pointZ (c : Dev nD) (t : Fin cfg0.N) (y : S1024x512.Idx) : k0_pay3 (F := Ideal) (k0_pay1 (iblk m c 0 (row t)) (iblk m c 1 (row t))) (iblk m c 2 t) y
    = REFZ (m ((c : Thread nD τ).loc main_arg0)) (m ((c : Thread nD τ).loc main_arg1)) (m ((c : Thread nD τ).loc main_arg2)) (((cfg0.win 4).blk t).view.emb y) := by
  pointwise [k0_pay3, k0_pay1, REFZ, NORM]
  refine Finset.sum_congr rfl fun k _ => ?_
  blk_point [iblk, V, idx t]

/-- The results after the run are the reference's. -/
theorem finalZ (c : Dev nD) : (dats m 0 c).arrAt 4 cfg0.N = REFZ (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact pointZ m c t y
theorem finalG (c : Dev nD) : (dats m 0 c).arrAt 5 cfg0.N = REFG (m ((c : Thread nD τ).loc main_arg0)) (m ((c : Thread nD τ).loc main_arg1)) (m ((c : Thread nD τ).loc main_arg3)) := by
  refine (dats m 0 c).arrAt_eq_of_covers 5 _ (by decide +kernel) fun t _ y => ?_
  blk_simp
  rw [after0_5]
  exact pointG m c t y
theorem finalX (c : Dev nD) : (dats m 0 c).arrAt 6 cfg0.N = REFX (m ((c : Thread nD τ).loc main_arg0)) (m ((c : Thread nD τ).loc main_arg1)) := by
  refine (dats m 0 c).arrAt_eq_of_covers 6 _ (by decide +kernel) fun t _ y => ?_
  blk_simp
  rw [after0_6]
  exact pointX m c t y

end Cert.Kernel6Ideal.Proj

end
-- ==== Proof.FcumSum.lean ====
/- Running sums on the extended reals: the windowed sum read as a sum up to a column, and the logarithm of the
   logistic function in its two forms. -/
module

public import proofs.«01_k».proof.Proof.Gen.Reference7Ideal.Run
public import Idealize.ShloMosaic.Lib.Pipeline.ValueKit

@[expose] public section

noncomputable section

namespace Cert.Cum

open Idealize.ShloMosaic

/-- A row of the array as a function of every natural number: zero past the last column. -/
def row (x : (⟨2, ![8, 8192]⟩ : Shape).Idx → EReal) (i : Fin 8) (k : ℕ) : EReal := if h : k < 8192 then x (ix2 i ⟨k, h⟩) else 0

/-- A column of the row. -/
theorem row_lt (x : (⟨2, ![8, 8192]⟩ : Shape).Idx → EReal) (i : Fin 8) (k : ℕ) (h : k < 8192) : row x i k = x (ix2 i ⟨k, h⟩) := dif_pos h

/-- A sum over a window that ends at column `j` and starts before the row does is the sum up to that column. -/
theorem sum_window (g : ℕ → EReal) (j : ℕ) (hj : j < 8192) :
    ∑ b : Fin 8192, (if 8191 ≤ j + b.val then g (j + b.val - 8191) else 0) = ∑ k ∈ Finset.range (j + 1), g k := by
  rw [Fin.sum_univ_eq_sum_range (fun b => if 8191 ≤ j + b then g (j + b - 8191) else 0) 8192,
    show 8192 = (8191 - j) + (j + 1) by omega, Finset.sum_range_add, Finset.sum_eq_zero, zero_add]
  · refine Finset.sum_congr rfl fun k hk => ?_
    rw [if_pos (by omega), show j + (8191 - j + k) - 8191 = k by omega]
  · intro k hk
    rw [if_neg (by have := Finset.mem_range.mp hk; omega)]

/-- A left fold of additions from zero is a sum. -/
theorem foldl_add {n : ℕ} (f : Fin n → EReal) : (List.finRange n).foldl (fun r k => r + f k) 0 = ∑ k, f k := by
  rw [Fin.sum_univ_def, List.sum_eq_foldl, List.foldl_map]

/-- The host's windowed sum of real numbers is the left fold of their additions. -/
theorem host_eq {s t u : Shape} (window strides lo hi : Fin s.rank → ℕ) (x : FVec Ideal s .f32) (v : FVec Ideal u .f32)
    (h : s.ReduceWindows window strides lo hi t) (hu : 0 < u.numel) :
    Host.reduceWindowAdd window strides lo hi x v h hu = Host.reduceWindow (α := EReal) (· + ·) window strides lo hi x v h hu := rfl

/-- The running sum of an array along its columns, at an index, is the sum of the row up to that column. -/
theorem reduceWindow_apply (x : (⟨2, ![8, 8192]⟩ : Shape).Idx → EReal) (v : (⟨0, ![]⟩ : Shape).Idx → EReal) (hv : ∀ i, v i = 0)
    (h : (⟨2, ![8, 8192]⟩ : Shape).ReduceWindows ![1, 8192] ![1, 1] ![0, 8191] ![0, 0] ⟨2, ![8, 8192]⟩)
    (hu : 0 < (⟨0, ![]⟩ : Shape).numel) (j : (⟨2, ![8, 8192]⟩ : Shape).Idx) :
    Host.reduceWindow (· + ·) ![1, 8192] ![1, 1] ![0, 8191] ![0, 0] x v h hu j
      = ∑ k ∈ Finset.range ((j 1).val + 1), row x (j 0) k := by
  have hj : (j 1).val < 8192 := (j 1).isLt
  have h0 : (j 0).val < 8 := (j 0).isLt
  unfold Host.reduceWindow
  simp only [hv]
  rw [foldl_add]
  refine (Equiv.sum_comp (Shape.rowMajor ⟨2, ![1, 8192]⟩).symm (fun w : (⟨2, ![1, 8192]⟩ : Shape).Idx =>
    if hin : ∀ a : Fin 2, (![0, 8191] : Fin 2 → ℕ) a ≤ (j (a.cast h.1.symm)).val * (![1, 1] : Fin 2 → ℕ) a + (w a).val
        ∧ (j (a.cast h.1.symm)).val * (![1, 1] : Fin 2 → ℕ) a + (w a).val - (![0, 8191] : Fin 2 → ℕ) a < (![8, 8192] : Fin 2 → ℕ) a
      then x (fun a => ⟨(j (a.cast h.1.symm)).val * (![1, 1] : Fin 2 → ℕ) a + (w a).val - (![0, 8191] : Fin 2 → ℕ) a, (hin a).2⟩) else 0)).trans ?_
  rw [sum_idx2, Fin.sum_univ_one, ← sum_window _ _ hj]
  refine Finset.sum_congr rfl fun b _ => ?_
  have hb : b.val < 8192 := b.isLt
  by_cases hle : 8191 ≤ (j 1).val + b.val
  · rw [dif_pos, if_pos hle]
    · refine Eq.trans (congrArg x (funext fun a => Fin.ext ?_)) (row_lt x (j 0) _ (show (j 1).val + b.val - 8191 < 8192 by omega)).symm
      match a with
      | ⟨0, _⟩ => show (j 0).val * 1 + 0 - 0 = (j 0).val; omega
      | ⟨1, _⟩ => show (j 1).val * 1 + b.val - 8191 = (j 1).val + b.val - 8191; omega
    · intro a
      match a with
      | ⟨0, _⟩ => show 0 ≤ (j 0).val * 1 + 0 ∧ (j 0).val * 1 + 0 - 0 < 8; omega
      | ⟨1, _⟩ => show 8191 ≤ (j 1).val * 1 + b.val ∧ (j 1).val * 1 + b.val - 8191 < 8192; omega
  · rw [dif_neg, if_neg hle]
    intro hin
    have h1 : 8191 ≤ (j 1).val * 1 + b.val := (hin 1).1
    omega

/-- At minus infinity it is zero. -/
theorem log1p_exp_bot : ∃ r : ℝ, Ideal.log1p (Ideal.exp ⊥) = (r : EReal) := by
  refine ⟨Real.log 1, ?_⟩
  show Ideal.log (1 + 0) = _
  rw [add_zero, ← EReal.coe_one]
  exact if_neg (by norm_num)

/-- The logarithm of one more than the exponential of a number that is not above zero is a real number. -/
theorem log1p_exp_real (z : EReal) : ∃ r : ℝ, Ideal.log1p (Ideal.exp (-max z (-z))) = (r : EReal) := by
  induction z with
  | bot =>
    rw [show -max (⊥ : EReal) (-⊥) = ⊥ by simp]
    exact log1p_exp_bot
  | top =>
    rw [show -max (⊤ : EReal) (-⊤) = ⊥ by simp]
    exact log1p_exp_bot
  | coe a =>
    refine ⟨Real.log (1 + Real.exp (-max a (-a))), ?_⟩
    have h : -max (a : EReal) (-(a : EReal)) = ((-max a (-a) : ℝ) : EReal) := by
      rw [EReal.coe_neg, EReal.coe_strictMono.monotone.map_max, EReal.coe_neg]
    have hp : ¬ (1 + Real.exp (-max a (-a)) ≤ 0) := by have := Real.exp_pos (-max a (-a)); linarith
    rw [h]
    show Ideal.log (1 + ((Real.exp (-max a (-a)) : ℝ) : EReal)) = _
    rw [← EReal.coe_one, ← EReal.coe_add]
    exact if_neg hp

/-- The smaller of a number and zero is the negated larger of its negation and zero. -/
theorem neg_max_neg_zero (z : EReal) : -max (-z) 0 = min z 0 := by
  rcases le_total z 0 with h | h
  · rw [min_eq_left h, max_eq_left (by rw [← neg_zero]; exact EReal.neg_le_neg_iff.mpr h), neg_neg]
  · rw [min_eq_right h, max_eq_right (by rw [← neg_zero]; exact EReal.neg_le_neg_iff.mpr h), neg_zero]

/-- The logarithm of the logistic function, the reference's form against the kernel's. -/
theorem log_sigmoid (z : Ideal .f32) :
    (-if -z ≠ -z then -z else max (-z) 0 + Ideal.log1p (Ideal.exp (-FloatOps.absf (-z))) : EReal)
      = min z 0 - Ideal.log1p (Ideal.exp (0 - FloatOps.absf z)) := by
  have h1 : (FloatOps.absf z : EReal) = max z (-z) := rfl
  have h2 : (FloatOps.absf (φ := .f32) (F := Ideal) (-z) : EReal) = max z (-z) := (congrArg (max (-z)) (neg_neg (z : EReal))).trans (max_comm _ _)
  obtain ⟨r, hr⟩ := log1p_exp_real z
  rw [if_neg (fun h => h rfl), h1, h2, zero_sub, hr, EReal.neg_add (.inr (EReal.coe_ne_top r)) (.inr (EReal.coe_ne_bot r)), neg_max_neg_zero]

end Cert.Cum

end
-- ==== Proof.FcumTable.lean ====
/- The running sums' triangle: what sixteen of the table's rows hold. -/
module

public import proofs.«01_k».proof.Kernel7Ideal

@[expose] public section

namespace Cert.Kernel7Ideal.Cum

open Cert.Kernel7Ideal Idealize.ShloMosaic

/-- In the sixteen rows from row `16 q` the table holds the word of one at and above the diagonal and zero below it. -/
abbrev Rows (q : ℕ) : Prop := ∀ r : Fin 16, ∀ c : Fin 256,
  lit0t (256 * (16 * q + r.val) + c.val) = if 16 * q + r.val ≤ c.val then 0x3F800000#32 else 0#32

end Cert.Kernel7Ideal.Cum
-- ==== Proof.FcumTable0.lean ====
/- The running sums' triangle, entry by entry: the table's rows 0 to 63, evaluated. -/
module

public import proofs.«01_k».proof.Proof.FcumTable

@[expose] public section

set_option Elab.async false

namespace Cert.Kernel7Ideal.Cum

/-- The rows from row 0, -/
theorem rows0 : Rows 0 := by decide +kernel
/-- the next sixteen, -/
theorem rows1 : Rows 1 := by decide +kernel
/-- the sixteen after them, -/
theorem rows2 : Rows 2 := by decide +kernel
/-- and the last sixteen. -/
theorem rows3 : Rows 3 := by decide +kernel

end Cert.Kernel7Ideal.Cum
-- ==== Proof.FcumTable1.lean ====
/- The running sums' triangle, entry by entry: the table's rows 64 to 127, evaluated. -/
module

public import proofs.«01_k».proof.Proof.FcumTable

@[expose] public section

set_option Elab.async false

namespace Cert.Kernel7Ideal.Cum

/-- The rows from row 64, -/
theorem rows4 : Rows 4 := by decide +kernel
/-- the next sixteen, -/
theorem rows5 : Rows 5 := by decide +kernel
/-- the sixteen after them, -/
theorem rows6 : Rows 6 := by decide +kernel
/-- and the last sixteen. -/
theorem rows7 : Rows 7 := by decide +kernel

end Cert.Kernel7Ideal.Cum
-- ==== Proof.FcumTable2.lean ====
/- The running sums' triangle, entry by entry: the table's rows 128 to 191, evaluated. -/
module

public import proofs.«01_k».proof.Proof.FcumTable

@[expose] public section

set_option Elab.async false

namespace Cert.Kernel7Ideal.Cum

/-- The rows from row 128, -/
theorem rows8 : Rows 8 := by decide +kernel
/-- the next sixteen, -/
theorem rows9 : Rows 9 := by decide +kernel
/-- the sixteen after them, -/
theorem rows10 : Rows 10 := by decide +kernel
/-- and the last sixteen. -/
theorem rows11 : Rows 11 := by decide +kernel

end Cert.Kernel7Ideal.Cum
-- ==== Proof.FcumTable3.lean ====
/- The running sums' triangle, entry by entry: the table's rows 192 to 255, evaluated. -/
module

public import proofs.«01_k».proof.Proof.FcumTable

@[expose] public section

set_option Elab.async false

namespace Cert.Kernel7Ideal.Cum

/-- The rows from row 192, -/
theorem rows12 : Rows 12 := by decide +kernel
/-- the next sixteen, -/
theorem rows13 : Rows 13 := by decide +kernel
/-- the sixteen after them, -/
theorem rows14 : Rows 14 := by decide +kernel
/-- and the last sixteen. -/
theorem rows15 : Rows 15 := by decide +kernel

end Cert.Kernel7Ideal.Cum
-- ==== Proof.Fcum.lean ====
/- The running sums of the forget gates: each block of 256 columns the kernel stores is the reference's there. -/
module

public import proofs.«01_k».proof.Proof.Gen.Kernel7Ideal.Value
public import proofs.«01_k».proof.Proof.FcumSum
public import proofs.«01_k».proof.Proof.FcumTable0
public import proofs.«01_k».proof.Proof.FcumTable1
public import proofs.«01_k».proof.Proof.FcumTable2
public import proofs.«01_k».proof.Proof.FcumTable3
public import Idealize.ShloMosaic.Lib.VecWindow
public import Idealize.ShloMosaic.Lib.IdealHost

@[expose] public section

set_option maxRecDepth 16384

noncomputable section

namespace Cert.Kernel7Ideal.Cum

open Cert.Kernel7Ideal Cert.Kernel7Ideal.Gen
open Idealize.ShloMosaic Idealize.ShloMosaic.TcCoe Idealize.SL.Sem
open Idealize.ShloMosaic.Pipeline (Dat)

/-- The reference's logarithms of the gates, of its arguments. -/
abbrev LSIG (X0 : FVec Ideal S8x8192 .f32) (X1 : FVec Ideal S8x1 .f32) : FVec Ideal S8x8192 .f32 :=
  Host.negf (select (cmpf .une (subf (Host.negf (addf X0 (broadcastInDim Cert.Reference7Ideal.S8x8192 ![0, 1] Cert.Reference7Ideal.Gen.bcast_S8x1_S8x8192_0_1 X1))) (broadcastInDim Cert.Reference7Ideal.S8x8192 ![] Cert.Reference7Ideal.Gen.bcast_S_S8x8192 (constant Cert.Reference7Ideal.S_ .f32 0x00000000#32))) (subf (Host.negf (addf X0 (broadcastInDim Cert.Reference7Ideal.S8x8192 ![0, 1] Cert.Reference7Ideal.Gen.bcast_S8x1_S8x8192_0_1 X1))) (broadcastInDim Cert.Reference7Ideal.S8x8192 ![] Cert.Reference7Ideal.Gen.bcast_S_S8x8192 (constant Cert.Reference7Ideal.S_ .f32 0x00000000#32)))) (addf (Host.negf (addf X0 (broadcastInDim Cert.Reference7Ideal.S8x8192 ![0, 1] Cert.Reference7Ideal.Gen.bcast_S8x1_S8x8192_0_1 X1))) (broadcastInDim Cert.Reference7Ideal.S8x8192 ![] Cert.Reference7Ideal.Gen.bcast_S_S8x8192 (constant Cert.Reference7Ideal.S_ .f32 0x00000000#32))) (addf (maximumf (Host.negf (addf X0 (broadcastInDim Cert.Reference7Ideal.S8x8192 ![0, 1] Cert.Reference7Ideal.Gen.bcast_S8x1_S8x8192_0_1 X1))) (broadcastInDim Cert.Reference7Ideal.S8x8192 ![] Cert.Reference7Ideal.Gen.bcast_S_S8x8192 (constant Cert.Reference7Ideal.S_ .f32 0x00000000#32))) (Host.log1p (Host.exp (Host.negf (Host.absf (subf (Host.negf (addf X0 (broadcastInDim Cert.Reference7Ideal.S8x8192 ![0, 1] Cert.Reference7Ideal.Gen.bcast_S8x1_S8x8192_0_1 X1))) (broadcastInDim Cert.Reference7Ideal.S8x8192 ![] Cert.Reference7Ideal.Gen.bcast_S_S8x8192 (constant Cert.Reference7Ideal.S_ .f32 0x00000000#32)))))))))

/-- The reference's result, of its arguments. -/
abbrev REF (X0 : FVec Ideal S8x8192 .f32) (X1 : FVec Ideal S8x1 .f32) : FVec Ideal S8x8192 .f32 :=
  Host.reduceWindowAdd ![1, 8192] ![1, 1] ![0, 8191] ![0, 0] (LSIG X0 X1) (broadcastInDim Cert.Reference7Ideal.S_ ![] Cert.Reference7Ideal.Gen.bcast_S_S_ (constant Cert.Reference7Ideal.S_ .f32 0x00000000#32)) Cert.Reference7Ideal.Gen.reduceWindows_S8x8192_S8x8192_w1s1p0_0_w8192s1p8191_0 Cert.Reference7Ideal.Gen.h_S_

/-- The kernel's logarithm of a gate. -/
abbrev LS (z : Ideal .f32) : EReal := min z 0 - Ideal.log1p (Ideal.exp (0 - FloatOps.absf z))

/-- The reference's logarithms are the kernel's. -/
theorem lsig (X0 : FVec Ideal S8x8192 .f32) (X1 : FVec Ideal S8x1 .f32) (y : S8x8192.Idx) :
    LSIG X0 X1 y = LS (X0 y + X1 (ix2 (y 0) 0)) := by
  pointwise [LSIG]
  exact Cert.Cum.log_sigmoid (X0 y + X1 (ix2 (y 0) 0))

/-- The sum of a row's logarithms before column `n`. -/
abbrev sums (X0 : FVec Ideal S8x8192 .f32) (X1 : FVec Ideal S8x1 .f32) (i : Fin 8) (n : ℕ) : EReal :=
  ∑ k ∈ Finset.range n, Cert.Cum.row (LSIG X0 X1) i k

/-- The reference's result at an index is the sum of the row's logarithms up to the column. -/
theorem ref_apply (X0 : FVec Ideal S8x8192 .f32) (X1 : FVec Ideal S8x1 .f32) (y : S8x8192.Idx) :
    REF X0 X1 y = sums X0 X1 (y 0) ((y 1).val + 1) := by
  have h := fun L : FVec Ideal S8x8192 .f32 => congrFun (Cert.Cum.host_eq ![1, 8192] ![1, 1] ![0, 8191] ![0, 0] L (broadcastInDim Cert.Reference7Ideal.S_ ![] Cert.Reference7Ideal.Gen.bcast_S_S_ (constant Cert.Reference7Ideal.S_ .f32 0x00000000#32)) Cert.Reference7Ideal.Gen.reduceWindows_S8x8192_S8x8192_w1s1p0_0_w8192s1p8191_0 Cert.Reference7Ideal.Gen.h_S_) y
  refine (h (LSIG X0 X1)).trans ?_
  exact Cert.Cum.reduceWindow_apply (LSIG X0 X1) _ (fun _ => Ideal.ofBits_zero_f32) _ _ y

/-- The table's entry at an index, by the index's number. -/
theorem lit0_eq (k : Fin 65536) : lit0 k = lit0t k.val := by
  cases k
  rfl

/-- What holds of each number below sixteen. -/
theorem below (P : ℕ → Prop) (h0 : P 0) (h1 : P 1) (h2 : P 2) (h3 : P 3) (h4 : P 4) (h5 : P 5) (h6 : P 6) (h7 : P 7) (h8 : P 8) (h9 : P 9)
    (h10 : P 10) (h11 : P 11) (h12 : P 12) (h13 : P 13) (h14 : P 14) (h15 : P 15) (q : ℕ) (hq : q < 16) : P q := by
  interval_cases q <;> assumption

/-- The table of the triangle: one at and above the diagonal, zero below it. -/
theorem table (a b : Fin 256) : lit0t (256 * a.val + b.val) = if a.val ≤ b.val then 0x3F800000#32 else 0#32 := by
  have ha : a.val / 16 < 16 := by have := a.isLt; omega
  have h := below Rows rows0 rows1 rows2 rows3 rows4 rows5 rows6 rows7 rows8 rows9 rows10 rows11 rows12 rows13 rows14 rows15 _ ha
  have key : ∀ n : ℕ, 16 * (a.val / 16) + a.val % 16 = n → lit0t (256 * n + b.val) = if n ≤ b.val then 0x3F800000#32 else 0#32 := by
    intro n e
    subst e
    exact h ⟨a.val % 16, Nat.mod_lt _ (by decide)⟩ b
  exact key _ (Nat.div_add_mod _ _)

/-- A block is right when each entry is the sum of its row's logarithms up to its column. -/
def Good (X0 : FVec Ideal S8x8192 .f32) (X1 : FVec Ideal S8x1 .f32) (c : ℕ) (p : FVec Ideal S8x256 .f32) : Prop :=
  ∀ y : S8x256.Idx, p y = sums X0 X1 (y 0) (256 * c + (y 1).val + 1)

variable {X0 : FVec Ideal S8x8192 .f32} {X1 : FVec Ideal S8x1 .f32} {T : FVec Ideal S256x256 .f32}

/-- The product of a block's logarithms with the triangle, and the sum before the block, make the sum up to the column. -/
theorem block (hT : ∀ a b : Fin 256, T (ix2 a b) = if a.val ≤ b.val then (1 : EReal) else 0) (c : ℕ) (hc : c < 32)
    (x : FVec Ideal S8x256 .f32) (hx : ∀ i : Fin 8, ∀ k : Fin 256, x (ix2 i k) = X0 (ix2 i ⟨256 * c + k.val, by omega⟩)) (i : Fin 8) (j : Fin 256) :
    (∑ k : Fin 256, LS (x (ix2 i k) + X1 (ix2 i 0)) * (T (ix2 k j) : EReal)) + sums X0 X1 i (256 * c) = sums X0 X1 i (256 * c + j.val + 1) := by
  have hj := j.isLt
  have e : ∀ k : Fin 256, LS (x (ix2 i k) + X1 (ix2 i 0)) * (T (ix2 k j) : EReal)
      = (fun n : ℕ => if n ≤ j.val then Cert.Cum.row (LSIG X0 X1) i (256 * c + n) else 0) k.val := fun k => by
    have hk := k.isLt
    show _ = if k.val ≤ j.val then Cert.Cum.row (LSIG X0 X1) i (256 * c + k.val) else 0
    rw [hT, hx, Cert.Cum.row_lt _ _ _ (show 256 * c + k.val < 8192 by omega), lsig]
    split
    · exact mul_one _
    · exact mul_zero _
  rw [Finset.sum_congr rfl fun k _ => e k, Fin.sum_univ_eq_sum_range (fun n : ℕ => if n ≤ j.val then Cert.Cum.row (LSIG X0 X1) i (256 * c + n) else 0) 256,
    ← Finset.sum_filter, add_assoc (256 * c) j.val 1, sums, sums, Finset.sum_range_add, add_comm]
  refine congrArg _ (Finset.sum_congr (Finset.ext fun n => ?_) fun _ _ => rfl)
  rw [Finset.mem_filter, Finset.mem_range, Finset.mem_range]
  omega

/-- The block a load at column `256 c` reads. -/
theorem load (c : ℕ) (hc : c < 32) (inb : ∀ a, (![0, 256 * c] : Fin 2 → ℕ) a + S8x256.size a ≤ S8x8192.size a) (i : Fin 8) (k : Fin 256) :
    View.ld (Val := Elt Ideal) (e' := .f32) X0 (Rect.unit (s := S8x8192) ![0, 256 * c] S8x256.size inb) (ix2 i k) = X0 (ix2 i ⟨256 * c + k.val, by omega⟩) :=
  View.ld_unit_apply_of (Val := Elt Ideal) (e := .f32) X0 _ _ inb _ _ fun a => by
    match a with
    | ⟨0, _⟩ => show i.val = 0 + i.val; omega
    | ⟨1, _⟩ => rfl

/-- The bias and the triangle are loaded whole. -/
theorem load1 : View.ld (Val := Elt Ideal) (e' := .f32) X1 r0_1 = X1 := View.ld_unit_zero (Val := Elt Ideal) (e := .f32) (by funext a; match a with | ⟨0, _⟩ => rfl | ⟨1, _⟩ => rfl) _ X1
theorem load2 : View.ld (Val := Elt Ideal) (e' := .f32) T r0_2 = T := View.ld_unit_zero (Val := Elt Ideal) (e := .f32) (by funext a; match a with | ⟨0, _⟩ => rfl | ⟨1, _⟩ => rfl) _ T

/-- The first block is right, -/
theorem first (hT : ∀ a b : Fin 256, T (ix2 a b) = if a.val ≤ b.val then (1 : EReal) else 0) :
    Good X0 X1 0 (k0_pay1 (F := Ideal) (View.ld X0 r0_0) (View.ld X1 r0_1) (View.ld T r0_2)) := fun y => by
  rw [load1, load2]
  refine Eq.trans ?_ (block hT 0 (by decide) _ (load 0 (by decide) inb_S8x8192_S8x256_0_0) (y 0) (y 1))
  rw [show sums X0 X1 (y 0) (256 * 0) = 0 from rfl]
  pointwise [k0_pay1]

/-- and so is a block after a right one. -/
theorem next (hT : ∀ a b : Fin 256, T (ix2 a b) = if a.val ≤ b.val then (1 : EReal) else 0) (c : ℕ) (hc : c + 1 < 32)
    (inb : ∀ a, (![0, 256 * (c + 1)] : Fin 2 → ℕ) a + S8x256.size a ≤ S8x8192.size a) {p : FVec Ideal S8x256 .f32} (hp : Good X0 X1 c p) :
    Good X0 X1 (c + 1) (k0_pay3 (F := Ideal) p (View.ld X0 (Rect.unit (s := S8x8192) ![0, 256 * (c + 1)] S8x256.size inb)) (View.ld X1 r0_1) (View.ld T r0_2)) := fun y => by
  rw [load1, load2]
  refine Eq.trans ?_ (block hT (c + 1) hc _ (load (c + 1) hc inb) (y 0) (y 1))
  rw [show sums X0 X1 (y 0) (256 * (c + 1)) = p (ix2 (y 0) 255) from (hp (ix2 (y 0) 255)).symm]
  pointwise [k0_pay3]

/-- The reference's result, as sums. -/
abbrev SUMS (X0 : FVec Ideal S8x8192 .f32) (X1 : FVec Ideal S8x1 .f32) : FVec Ideal S8x8192 .f32 :=
  fun y => sums X0 X1 (y 0) ((y 1).val + 1)

/-- A right block stored at its columns agrees with the reference's result. -/
theorem place (c : ℕ) (inb : ∀ a, (![0, 256 * c] : Fin 2 → ℕ) a + S8x256.size a ≤ S8x8192.size a) {p : FVec Ideal S8x256 .f32} (hp : Good X0 X1 c p)
    (x : S8x256.Idx) : p x = SUMS X0 X1 ((Rect.unit (s := S8x8192) ![0, 256 * c] S8x256.size inb).emb x) := by
  rw [hp x]
  have h0 : (Rect.unit (s := S8x8192) ![0, 256 * c] S8x256.size inb).emb x 0 = x 0 := Fin.ext (by show 0 + 1 * (x 0).val = (x 0).val; omega)
  have h1 : ((Rect.unit (s := S8x8192) ![0, 256 * c] S8x256.size inb).emb x 1).val = 256 * c + (x 1).val := by show 256 * c + 1 * (x 1).val = _; omega
  show _ = sums X0 X1 ((Rect.unit (s := S8x8192) ![0, 256 * c] S8x256.size inb).emb x 0) (((Rect.unit (s := S8x8192) ![0, 256 * c] S8x256.size inb).emb x 1).val + 1)
  rw [h0, h1]

/-- What the body leaves in the result's block: block after block, each right. -/
theorem out_eq (hT : ∀ a b : Fin 256, T (ix2 a b) = if a.val ≤ b.val then (1 : EReal) else 0) (y : S8x8192.Idx) :
    out0_3 (F := Ideal) X0 X1 T y = SUMS X0 X1 y := by
  have h0 := first (X0 := X0) (X1 := X1) hT
  have h1 := next hT 0 (by decide) inb_S8x8192_S8x256_0_256 h0
  have h2 := next hT 1 (by decide) inb_S8x8192_S8x256_0_512 h1
  have h3 := next hT 2 (by decide) inb_S8x8192_S8x256_0_768 h2
  have h4 := next hT 3 (by decide) inb_S8x8192_S8x256_0_1024 h3
  have h5 := next hT 4 (by decide) inb_S8x8192_S8x256_0_1280 h4
  have h6 := next hT 5 (by decide) inb_S8x8192_S8x256_0_1536 h5
  have h7 := next hT 6 (by decide) inb_S8x8192_S8x256_0_1792 h6
  have h8 := next hT 7 (by decide) inb_S8x8192_S8x256_0_2048 h7
  have h9 := next hT 8 (by decide) inb_S8x8192_S8x256_0_2304 h8
  have h10 := next hT 9 (by decide) inb_S8x8192_S8x256_0_2560 h9
  have h11 := next hT 10 (by decide) inb_S8x8192_S8x256_0_2816 h10
  have h12 := next hT 11 (by decide) inb_S8x8192_S8x256_0_3072 h11
  have h13 := next hT 12 (by decide) inb_S8x8192_S8x256_0_3328 h12
  have h14 := next hT 13 (by decide) inb_S8x8192_S8x256_0_3584 h13
  have h15 := next hT 14 (by decide) inb_S8x8192_S8x256_0_3840 h14
  have h16 := next hT 15 (by decide) inb_S8x8192_S8x256_0_4096 h15
  have h17 := next hT 16 (by decide) inb_S8x8192_S8x256_0_4352 h16
  have h18 := next hT 17 (by decide) inb_S8x8192_S8x256_0_4608 h17
  have h19 := next hT 18 (by decide) inb_S8x8192_S8x256_0_4864 h18
  have h20 := next hT 19 (by decide) inb_S8x8192_S8x256_0_5120 h19
  have h21 := next hT 20 (by decide) inb_S8x8192_S8x256_0_5376 h20
  have h22 := next hT 21 (by decide) inb_S8x8192_S8x256_0_5632 h21
  have h23 := next hT 22 (by decide) inb_S8x8192_S8x256_0_5888 h22
  have h24 := next hT 23 (by decide) inb_S8x8192_S8x256_0_6144 h23
  have h25 := next hT 24 (by decide) inb_S8x8192_S8x256_0_6400 h24
  have h26 := next hT 25 (by decide) inb_S8x8192_S8x256_0_6656 h25
  have h27 := next hT 26 (by decide) inb_S8x8192_S8x256_0_6912 h26
  have h28 := next hT 27 (by decide) inb_S8x8192_S8x256_0_7168 h27
  have h29 := next hT 28 (by decide) inb_S8x8192_S8x256_0_7424 h28
  have h30 := next hT 29 (by decide) inb_S8x8192_S8x256_0_7680 h29
  have h31 := next hT 30 (by decide) inb_S8x8192_S8x256_0_7936 h30
  unfold out0_3
  refine View.canon_apply_of_pieces (Val := Elt Ideal) (e := .f32) (SUMS X0 X1) _ ?_ y (cover0_3 _ _ _ _ _ _ _ _ _ _ _ _ _ _ _ _ _ _ _ _ _ _ _ _ _ _ _ _ _ _ _ _ y)
  simp only [List.forall_mem_cons]
  exact ⟨place 31 inb_S8x8192_S8x256_0_7936 h31, place 30 inb_S8x8192_S8x256_0_7680 h30, place 29 inb_S8x8192_S8x256_0_7424 h29, place 28 inb_S8x8192_S8x256_0_7168 h28, place 27 inb_S8x8192_S8x256_0_6912 h27, place 26 inb_S8x8192_S8x256_0_6656 h26, place 25 inb_S8x8192_S8x256_0_6400 h25, place 24 inb_S8x8192_S8x256_0_6144 h24, place 23 inb_S8x8192_S8x256_0_5888 h23, place 22 inb_S8x8192_S8x256_0_5632 h22, place 21 inb_S8x8192_S8x256_0_5376 h21, place 20 inb_S8x8192_S8x256_0_5120 h20, place 19 inb_S8x8192_S8x256_0_4864 h19, place 18 inb_S8x8192_S8x256_0_4608 h18, place 17 inb_S8x8192_S8x256_0_4352 h17, place 16 inb_S8x8192_S8x256_0_4096 h16, place 15 inb_S8x8192_S8x256_0_3840 h15, place 14 inb_S8x8192_S8x256_0_3584 h14, place 13 inb_S8x8192_S8x256_0_3328 h13, place 12 inb_S8x8192_S8x256_0_3072 h12, place 11 inb_S8x8192_S8x256_0_2816 h11, place 10 inb_S8x8192_S8x256_0_2560 h10, place 9 inb_S8x8192_S8x256_0_2304 h9, place 8 inb_S8x8192_S8x256_0_2048 h8, place 7 inb_S8x8192_S8x256_0_1792 h7, place 6 inb_S8x8192_S8x256_0_1536 h6, place 5 inb_S8x8192_S8x256_0_1280 h5, place 4 inb_S8x8192_S8x256_0_1024 h4, place 3 inb_S8x8192_S8x256_0_768 h3, place 2 inb_S8x8192_S8x256_0_512 h2, place 1 inb_S8x8192_S8x256_0_256 h1, place 0 inb_S8x8192_S8x256_0_0 h0, fun p hp => absurd hp List.not_mem_nil⟩

/-- Each window's only block lies at the origin. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, win0_0.index t = ![0, 0] ∧ win0_1.index t = ![0, 0] ∧ win0_2.index t = ![0, 0] ∧ win0_3.index t = ![0, 0])

variable (m : (ℓ : Loc nD τ sig) → Buf (Elt Ideal) ℓ)

/-- The triangle's block is the table. -/
theorem triangle (c : Dev nD) (t : Fin cfg0.N) (a b : Fin 256) : iblk m c 2 t (ix2 a b) = if a.val ≤ b.val then (1 : EReal) else 0 := by
  have e : (win0_2.blk t).view.emb (ix2 a b) = ix2 a b := by
    blk_ext [idx t]
  have h : iblk m c 2 t (ix2 a b) = Ideal.ofBits .f32 (lit0 (S256x256.rowMajor (ix2 a b))) := by
    blk_simp [iblk]
    entry_read
    pointwise
    rw [e]
  have l : lit0 (S256x256.rowMajor (ix2 a b)) = if a.val ≤ b.val then 0x3F800000#32 else 0#32 :=
    (lit0_eq (S256x256.rowMajor (ix2 a b))).trans ((congrArg lit0t ((Shape.rowMajor_val_two _).trans
      (by show a.val * 256 + b.val = 256 * a.val + b.val; omega))).trans (table a b))
  rw [h, l]
  split
  · exact Ideal.ofBits_one_f32
  · exact Ideal.ofBits_zero_f32

/-- The result after the run is the reference's. -/
theorem final (c : Dev nD) : (dats m 0 c).arrAt 3 cfg0.N = REF (m ((c : Thread nD τ).loc main_arg0)) (m ((c : Thread nD τ).loc main_arg1)) := by
  refine (dats m 0 c).arrAt_eq_of_covers 3 _ (by decide +kernel) fun t _ y => ?_
  blk_simp
  rw [after0_3]
  have e0 : iblk m c 0 t = m ((c : Thread nD τ).loc main_arg0) := by
    funext z
    blk_point [iblk, V, idx t]
  have e1 : iblk m c 1 t = m ((c : Thread nD τ).loc main_arg1) := by
    funext z
    blk_point [iblk, V, idx t]
  rw [e0, e1]
  have ey : ((cfg0.win 3).blk t).view.emb y = y := by
    blk_ext [idx t]
  exact (out_eq (triangle m c t) y).trans ((ref_apply _ _ _).symm.trans (congrArg (REF _ _) ey.symm))

end Cert.Kernel7Ideal.Cum

end
-- ==== Proof.lean ====
/- The proof of the certificate's claims: both programs of the kernel and the reference run and leave their arguments as they
   were; the idealized kernel differs from the kernel by the named constant alone; and on finite queries, keys and gates the
   idealized kernel and the reference end with the same result. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Launch
public import proofs.«01_k».proof.Proof.Gen.Kernel6.Skeleton
public import proofs.«01_k».proof.Proof.Gen.Kernel6.Frame
public import proofs.«01_k».proof.Proof.Gen.Kernel6Ideal
public import proofs.«01_k».proof.Proof.Gen.Kernel6Ideal.Launch
public import proofs.«01_k».proof.Proof.Gen.Kernel6Ideal.Skeleton
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Pre_finite
public import proofs.«01_k».proof.Proof.RunKernel
public import proofs.«01_k».proof.Proof.RunKernelIdeal
public import proofs.«01_k».proof.Proof.Equal
public import proofs.«01_k».proof.Proof.Gates
public import proofs.«01_k».proof.Proof.Merge
public import proofs.«01_k».proof.Proof.Outproj
public import proofs.«01_k».proof.Proof.FinalNorm
public import proofs.«01_k».proof.Proof.InprojKernel
public import proofs.«01_k».proof.Proof.Inproj
public import proofs.«01_k».proof.Proof.Fcum
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs and leaves its arguments as they were. -/
theorem frame_reference : Cert.quiescent_ReferenceIdeal := fun m g _ =>
  (θ_run _ _ _).mono (fun r h => ⟨fun c => (h c).2, sem_eq_zero_of_no_sems (by decide) _⟩) (Cert.ReferenceIdeal.Value.run (F := Ideal) m g)

/-- On finite queries, keys and gates the idealized kernel ends with the reference's result. -/
theorem same : Cert.algebraic_KernelIdeal_ReferenceIdeal_pre_finite := fun m g m' g' hp hm => by
  refine ⟨fun c => (Cert.KernelIdeal.Attn.dats m 0 c).arrAt (5 : Fin 6) Cert.KernelIdeal.Attn.cfgA.N,
    (θ_run _ _ _).mono (fun r h c => ⟨(h.1 c).2.2, (h.1 c).1, (h.1 c).2.1⟩) (Cert.KernelIdeal.Attn.run_main m g),
    (θ_run _ _ _).mono (fun r h c => ⟨(h c).1.trans ?_, (h c).2⟩) (Cert.ReferenceIdeal.Value.run (F := Ideal) m' g')⟩
  have H := Cert.Attn.finite_of_pre (hp c)
  refine (Cert.ReferenceIdeal.Attn.res_eq m' c).trans ?_
  rw [(hm c).1, (hm c).2]
  refine Eq.trans ?_ (Cert.KernelIdeal.Attn.result_eq m c H).symm
  funext j
  refine (congrArg _ (eq_ix2 (n0 := 8192) (n1 := 512) j)).trans ?_
  exact (Cert.ReferenceIdeal.Attn.res_at _ _ (j 0) (j 1)).trans (Cert.Attn.value_eq H (j 0) (j 1)).symm

/-- The gates: the reference runs and leaves its arguments as they were. -/
theorem frame_gates : Cert.quiescent_Reference2Ideal := fun m g _ =>
  (θ_run _ _ _).mono (fun r h => ⟨fun c => (h c).2, sem_eq_zero_of_no_sems (by decide) _⟩) (Cert.Reference2Ideal.Value.run (F := Ideal) m g)

/-- The gates: the idealized kernel ends with the reference's result, whatever the arguments. -/
theorem same_gates : Cert.algebraic_Kernel2Ideal_Reference2Ideal := fun m g m' g' _ hm => by
  refine ⟨fun c => (Cert.Kernel2Ideal.Gen.dats m 0 c).arrAt 2 Cert.Kernel2Ideal.cfg0.N,
    Cert.Kernel2Ideal.Value.run_blocks m g,
    (θ_run _ _ _).mono (fun r h c => ⟨(h c).1.trans ?_, (h c).2⟩) (Cert.Reference2Ideal.Value.run (F := Ideal) m' g')⟩
  rw [(hm c).1, (hm c).2]
  exact (Cert.Kernel2Ideal.Value.final m c).symm

/-- The merge: the reference runs and leaves its arguments as they were. -/
theorem frame_merge : Cert.quiescent_Reference3Ideal := fun m g _ =>
  (θ_run _ _ _).mono (fun r h => ⟨fun c => (h c).2, sem_eq_zero_of_no_sems (by decide) _⟩) (Cert.Reference3Ideal.Value.run (F := Ideal) m g)

/-- The merge: the idealized kernel ends with the reference's result, whatever the arguments. -/
theorem same_merge : Cert.algebraic_Kernel3Ideal_Reference3Ideal := fun m g m' g' _ hm => by
  refine ⟨fun c => (Cert.Kernel3Ideal.Gen.dats m 0 c).arrAt 4 Cert.Kernel3Ideal.cfg0.N,
    Cert.Kernel3Ideal.Value.run_blocks m g,
    (θ_run _ _ _).mono (fun r h c => ⟨(h c).1.trans ?_, (h c).2⟩) (Cert.Reference3Ideal.Value.run (F := Ideal) m' g')⟩
  rw [(hm c).1, (hm c).2.1, (hm c).2.2.1, (hm c).2.2.2]
  exact (Cert.Kernel3Ideal.Value.final m c).symm

/-- The output projection: the reference runs and leaves its arguments as they were. -/
theorem frame_outproj : Cert.quiescent_Reference4Ideal := fun m g _ =>
  (θ_run _ _ _).mono (fun r h => ⟨fun c => (h c).2.2, sem_eq_zero_of_no_sems (by decide) _⟩) (Cert.Reference4Ideal.Value.run (F := Ideal) m g)

/-- The output projection: the idealized kernel ends with the reference's results, whatever the arguments. -/
theorem same_outproj : Cert.algebraic_Kernel4Ideal_Reference4Ideal := fun m g m' g' _ hm => by
  refine ⟨fun c => (Cert.Kernel4Ideal.Gen.dats m 0 c).arrAt 4 Cert.Kernel4Ideal.cfg0.N, fun c => (Cert.Kernel4Ideal.Gen.dats m 0 c).arrAt 5 Cert.Kernel4Ideal.cfg0.N,
    Cert.Kernel4Ideal.Value.run_blocks m g,
    (θ_run _ _ _).mono (fun r h c => ⟨(h c).1.trans ?_, (h c).2.1.trans ?_, (h c).2.2⟩) (Cert.Reference4Ideal.Value.run (F := Ideal) m' g')⟩
  · rw [(hm c).1, (hm c).2.1, (hm c).2.2.1]
    exact (Cert.Kernel4Ideal.Value.final m c).symm
  · rw [(hm c).1, (hm c).2.1, (hm c).2.2.1, (hm c).2.2.2]
    exact (Cert.Kernel4Ideal.Value.final_norm m c).symm

/-- The last norm: the reference runs and leaves its arguments as they were. -/
theorem frame_norm : Cert.quiescent_Reference5Ideal := fun m g _ =>
  (θ_run _ _ _).mono (fun r h => ⟨fun c => (h c).2, sem_eq_zero_of_no_sems (by decide) _⟩) (Cert.Reference5Ideal.Value.run (F := Ideal) m g)

/-- The last norm: the idealized kernel ends with the reference's result, whatever the arguments. -/
theorem same_norm : Cert.algebraic_Kernel5Ideal_Reference5Ideal := fun m g m' g' _ hm => by
  refine ⟨fun c => (Cert.Kernel5Ideal.Gen.dats m 0 c).arrAt 2 Cert.Kernel5Ideal.cfg0.N,
    Cert.Kernel5Ideal.Value.run_blocks m g,
    (θ_run _ _ _).mono (fun r h c => ⟨(h c).1.trans ?_, (h c).2⟩) (Cert.Reference5Ideal.Value.run (F := Ideal) m' g')⟩
  rw [(hm c).1, (hm c).2]
  exact (Cert.Kernel5Ideal.Value.final m c).symm

/-- The input projection's reference leaves its arguments and runs to its end. -/
theorem frame_inproj : Cert.quiescent_Reference6Ideal := fun m g _ =>
  (θ_run _ _ _).mono (fun r h => ⟨fun c => (h c).2.2.2, sem_eq_zero_of_no_sems (by decide) _⟩) (Cert.Reference6Ideal.Value.run (F := Ideal) m g)

/-- The input projection: the idealized kernel ends with the reference's results, whatever the arguments. -/
theorem same_inproj : Cert.algebraic_Kernel6Ideal_Reference6Ideal := fun m g m' g' _ hm => by
  refine ⟨fun c => (Cert.Kernel6Ideal.Proj.dats m 0 c).arrAt 4 Cert.Kernel6Ideal.cfg0.N, fun c => (Cert.Kernel6Ideal.Proj.dats m 0 c).arrAt 5 Cert.Kernel6Ideal.cfg0.N,
    fun c => (Cert.Kernel6Ideal.Proj.dats m 0 c).arrAt 6 Cert.Kernel6Ideal.cfg0.N,
    Cert.Kernel6Ideal.Proj.run_blocks m g,
    (θ_run _ _ _).mono (fun r h c => ⟨(h c).1.trans ?_, (h c).2.1.trans ?_, (h c).2.2.1.trans ?_, (h c).2.2.2⟩) (Cert.Reference6Ideal.Value.run (F := Ideal) m' g')⟩
  · rw [(hm c).1, (hm c).2.1, (hm c).2.2.1]
    exact (Cert.Kernel6Ideal.Proj.finalZ m c).symm
  · rw [(hm c).1, (hm c).2.1, (hm c).2.2.2]
    exact (Cert.Kernel6Ideal.Proj.finalG m c).symm
  · rw [(hm c).1, (hm c).2.1]
    exact (Cert.Kernel6Ideal.Proj.finalX m c).symm

/-- The running sums' reference leaves its arguments and runs to its end. -/
theorem frame_cum : Cert.quiescent_Reference7Ideal := fun m g _ =>
  (θ_run _ _ _).mono (fun r h => ⟨fun c => (h c).2, sem_eq_zero_of_no_sems (by decide) _⟩) (Cert.Reference7Ideal.Value.run (F := Ideal) m g)

/-- The running sums: the idealized kernel ends with the reference's result, whatever the arguments. -/
theorem same_cum : Cert.algebraic_Kernel7Ideal_Reference7Ideal := fun m g m' g' _ hm => by
  refine ⟨fun c => (Cert.Kernel7Ideal.Gen.dats m 0 c).arrAt 3 Cert.Kernel7Ideal.cfg0.N, Cert.Kernel7Ideal.Value.run_blocks m g,
    (θ_run _ _ _).mono (fun r h c => ⟨(h c).1.trans ?_, (h c).2⟩) (Cert.Reference7Ideal.Value.run (F := Ideal) m' g')⟩
  rw [(hm c).1, (hm c).2]
  exact (Cert.Kernel7Ideal.Cum.final m c).symm

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite.Gen.facts,
  fun m g _ => Cert.Kernel.Attn.frame m g, fun m g _ => Cert.KernelIdeal.Attn.frame m g, fun m g _ => Cert.KernelIdeal.Attn.frame m g,
  frame_reference, fun m g _ => frame_reference m g trivial,
  fun m g _ => Cert.Kernel2.Gen.frame m g, fun m g _ => Cert.Kernel2Ideal.Gen.frame m g, frame_gates,
  fun m g _ => Cert.Kernel3.Gen.frame m g, fun m g _ => Cert.Kernel3Ideal.Gen.frame m g, frame_merge,
  fun m g _ => Cert.Kernel4.Gen.frame m g, fun m g _ => Cert.Kernel4Ideal.Gen.frame m g, frame_outproj,
  fun m g _ => Cert.Kernel5.Gen.frame m g, fun m g _ => Cert.Kernel5Ideal.Gen.frame m g, frame_norm,
  fun m g _ => Cert.Kernel6.Proj.frame m g, fun m g _ => Cert.Kernel6Ideal.Proj.frame m g, frame_inproj,
  fun m g _ => Cert.Kernel7.Gen.frame m g, fun m g _ => Cert.Kernel7Ideal.Gen.frame m g, frame_cum,
  IdealRules.named_const.statement Cert.KernelIdeal.κ "mask" .f32 0xF149F2CA#32 ⊥ rfl, same,
  trivial, same_gates, trivial, same_merge, trivial, same_outproj, trivial, same_norm, trivial, same_inproj, trivial, same_cum⟩

end Cert.Proof

end
